-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S4x2x2x44x2x128 Cert.KernelIdeal.S4x2x2x44x1x128
  ∧ IdealRules.bf16_pair.PackStatement Cert.KernelIdeal.S44x128
  ∧ IdealRules.bf16_pair.Statement Cert.KernelIdeal.S1x1x44x2x128 Cert.KernelIdeal.S1x1x44x1x128
  ∧ IdealRules.bf16_pair.Statement Cert.KernelIdeal.S1x1x1x2x128 Cert.KernelIdeal.S1x1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x5632 : Shape := ⟨3, ![64, 1, 5632]⟩
abbrev S17280x2816 : Shape := ⟨2, ![17280, 2816]⟩
abbrev S17280x88 : Shape := ⟨2, ![17280, 88]⟩
abbrev S5940 : Shape := ⟨1, ![5940]⟩
abbrev S_ : Shape := ⟨0, ![]⟩
abbrev S5632x16 : Shape := ⟨2, ![5632, 16]⟩
abbrev S16x17280 : Shape := ⟨2, ![16, 17280]⟩
abbrev S32x128 : Shape := ⟨2, ![32, 128]⟩
abbrev S5984 : Shape := ⟨1, ![5984]⟩
abbrev S17x4x88 : Shape := ⟨3, ![17, 4, 88]⟩
abbrev S17x4x128 : Shape := ⟨3, ![17, 4, 128]⟩
abbrev S64x5632 : Shape := ⟨2, ![64, 5632]⟩
abbrev S1 : Shape := ⟨1, ![1]⟩
abbrev S64x17280 : Shape := ⟨2, ![64, 17280]⟩
abbrev S1024x2816 : Shape := ⟨2, ![1024, 2816]⟩
abbrev S1024x88 : Shape := ⟨2, ![1024, 88]⟩
abbrev S1x4x128 : Shape := ⟨3, ![1, 4, 128]⟩
abbrev S16x1024 : Shape := ⟨2, ![16, 1024]⟩
abbrev S64x1024 : Shape := ⟨2, ![64, 1024]⟩
abbrev S64x16 : Shape := ⟨2, ![64, 16]⟩
abbrev S4x2x2x44x128 : Shape := ⟨5, ![4, 2, 2, 44, 128]⟩
abbrev S16x128 : Shape := ⟨2, ![16, 128]⟩
abbrev S16x128x1 : Shape := ⟨3, ![16, 128, 1]⟩
abbrev S256x88 : Shape := ⟨2, ![256, 88]⟩
abbrev S1x1x128 : Shape := ⟨3, ![1, 1, 128]⟩
abbrev S1x128 : Shape := ⟨2, ![1, 128]⟩
abbrev S64x88 : Shape := ⟨2, ![64, 88]⟩
abbrev S128x88 : Shape := ⟨2, ![128, 88]⟩
abbrev S88x128 : Shape := ⟨2, ![88, 128]⟩
abbrev S44x128 : Shape := ⟨2, ![44, 128]⟩
abbrev S1x128x1 : Shape := ⟨3, ![1, 128, 1]⟩
abbrev S1x2x2x44x128 : Shape := ⟨5, ![1, 2, 2, 44, 128]⟩
abbrev S2x2x44x128 : Shape := ⟨4, ![2, 2, 44, 128]⟩
abbrev S1x1x44x128 : Shape := ⟨4, ![1, 1, 44, 128]⟩
abbrev S64x256 : Shape := ⟨2, ![64, 256]⟩
abbrev S256x128 : Shape := ⟨2, ![256, 128]⟩
abbrev S64x128 : Shape := ⟨2, ![64, 128]⟩
abbrev S128x128 : Shape := ⟨2, ![128, 128]⟩
abbrev S8x128 : Shape := ⟨2, ![8, 128]⟩
abbrev S32x128x1 : Shape := ⟨3, ![32, 128, 1]⟩
abbrev S1x1x1x128 : Shape := ⟨4, ![1, 1, 1, 128]⟩
abbrev S128x256 : Shape := ⟨2, ![128, 256]⟩
abbrev S256x256 : Shape := ⟨2, ![256, 256]⟩
abbrev S16x256 : Shape := ⟨2, ![16, 256]⟩

abbrev nBuf : Space → Nat
  | .hbm => 19
  | .vmem => 17
  | .smem => 1
  | _ => 0

abbrev bufTy : (tb : Table) → Fin (tcTables nBuf tb) → BufTy
  | .hbm, ⟨0, _⟩ => ⟨S64x1x5632, .bf16⟩
  | .hbm, ⟨1, _⟩ => ⟨S17280x2816, .i8⟩
  | .hbm, ⟨2, _⟩ => ⟨S17280x88, .i8⟩
  | .hbm, ⟨3, _⟩ => ⟨S5940, .f32⟩
  | .hbm, ⟨4, _⟩ => ⟨S_, .f32⟩
  | .hbm, ⟨5, _⟩ => ⟨S5632x16, .bf16⟩
  | .hbm, ⟨6, _⟩ => ⟨S16x17280, .bf16⟩
  | .hbm, ⟨7, _⟩ => ⟨S32x128, .i8⟩
  | .hbm, ⟨8, _⟩ => ⟨S32x128, .i8⟩
  | .hbm, ⟨9, _⟩ => ⟨S_, .i32⟩
  | .hbm, ⟨10, _⟩ => ⟨S_, .f32⟩
  | .hbm, ⟨11, _⟩ => ⟨S5984, .f32⟩
  | .hbm, ⟨12, _⟩ => ⟨S17x4x88, .f32⟩
  | .hbm, ⟨13, _⟩ => ⟨S_, .i32⟩
  | .hbm, ⟨14, _⟩ => ⟨S_, .f32⟩
  | .hbm, ⟨15, _⟩ => ⟨S17x4x128, .f32⟩
  | .hbm, ⟨16, _⟩ => ⟨S64x5632, .bf16⟩
  | .hbm, ⟨17, _⟩ => ⟨S1, .f32⟩
  | .hbm, ⟨18, _⟩ => ⟨S64x17280, .bf16⟩
  | .local _ .vmem, ⟨0, _⟩ => ⟨S64x5632, .bf16⟩
  | .local _ .vmem, ⟨1, _⟩ => ⟨S1024x2816, .i8⟩
  | .local _ .vmem, ⟨2, _⟩ => ⟨S1024x2816, .i8⟩
  | .local _ .vmem, ⟨3, _⟩ => ⟨S1024x88, .i8⟩
  | .local _ .vmem, ⟨4, _⟩ => ⟨S1024x88, .i8⟩
  | .local _ .vmem, ⟨5, _⟩ => ⟨S1x4x128, .f32⟩
  | .local _ .vmem, ⟨6, _⟩ => ⟨S1x4x128, .f32⟩
  | .local _ .vmem, ⟨7, _⟩ => ⟨S5632x16, .bf16⟩
  | .local _ .vmem, ⟨8, _⟩ => ⟨S16x1024, .bf16⟩
  | .local _ .vmem, ⟨9, _⟩ => ⟨S16x1024, .bf16⟩
  | .local _ .vmem, ⟨10, _⟩ => ⟨S32x128, .i8⟩
  | .local _ .vmem, ⟨11, _⟩ => ⟨S32x128, .i8⟩
  | .local _ .vmem, ⟨12, _⟩ => ⟨S64x1024, .bf16⟩
  | .local _ .vmem, ⟨13, _⟩ => ⟨S64x1024, .bf16⟩
  | .local _ .vmem, ⟨14, _⟩ => ⟨S64x5632, .bf16⟩
  | .local _ .vmem, ⟨15, _⟩ => ⟨S64x16, .bf16⟩
  | .local _ .vmem, ⟨16, _⟩ => ⟨S4x2x2x44x128, .i32⟩
  | .local _ .smem, ⟨0, _⟩ => ⟨S1, .f32⟩
  | _, _ => ⟨S64x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c22_i32 : BitVec 32 := 22#32
  let v21 : BitVec 32 := Scalar.addi c0_i32_17 c22_i32
  let c1_i32_18 : BitVec 32 := 1#32
  ⟨c0_i32_17, v21, c1_i32_18⟩
def k0_mult1 (k0_t1 : Fin k0_t1_loop.trips) : BitVec 32 :=
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  v24
def k0_mult2 (k0_t1 : Fin k0_t1_loop.trips) : BitVec 32 :=
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  v27
def k0_off1 (k0_t1 : Fin k0_t1_loop.trips) : Fin 2 → Nat :=
  let c0_23 : Index := 0#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v29 : Index := Scalar.indexCast v25
  ![0, v29.toNat]
def k0_off2 (k0_t1 : Fin k0_t1_loop.trips) : Fin 2 → Nat :=
  let c0_24 : Index := 0#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v33 : Index := Scalar.indexCast v28
  ![0, v33.toNat]
def k0_off3 (k0_t1 : Fin k0_t1_loop.trips) : Fin 2 → Nat :=
  let c16 : Index := 16#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v72 : Index := Scalar.indexCast v25
  ![16, v72.toNat]
def k0_off4 (k0_t1 : Fin k0_t1_loop.trips) : Fin 2 → Nat :=
  let c16_29 : Index := 16#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v76 : Index := Scalar.indexCast v28
  ![16, v76.toNat]
def k0_off5 (k0_t1 : Fin k0_t1_loop.trips) : Fin 2 → Nat :=
  let c32 : Index := 32#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v115 : Index := Scalar.indexCast v25
  ![32, v115.toNat]
def k0_off6 (k0_t1 : Fin k0_t1_loop.trips) : Fin 2 → Nat :=
  let c32_37 : Index := 32#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v119 : Index := Scalar.indexCast v28
  ![32, v119.toNat]
def k0_off7 (k0_t1 : Fin k0_t1_loop.trips) : Fin 2 → Nat :=
  let c48 : Index := 48#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v158 : Index := Scalar.indexCast v25
  ![48, v158.toNat]
def k0_off8 (k0_t1 : Fin k0_t1_loop.trips) : Fin 2 → Nat :=
  let c48_45 : Index := 48#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v162 : Index := Scalar.indexCast v28
  ![48, v162.toNat]
@[reducible] def k0_t2_loop : Scf.Loop 32 :=
  let c0_i32_8 : BitVec 32 := 0#32
  let c4_i32 : BitVec 32 := 4#32
  let v12 : BitVec 32 := Scalar.addi c0_i32_8 c4_i32
  let c1_i32_9 : BitVec 32 := 1#32
  ⟨c0_i32_8, v12, c1_i32_9⟩
def k0_mult3 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32 : BitVec 32 := 256#32
  let v15 : BitVec 32 := Scalar.muli v14 c256_i32
  v15
def k0_mult4 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  v17
def k0_mult5 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  v20
def k0_off9 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32 : BitVec 32 := 256#32
  let v15 : BitVec 32 := Scalar.muli v14 c256_i32
  let v16 : BitVec 32 := v15
  let v22 : Index := Scalar.indexCast v16
  let c0_15 : Index := 0#32
  ![v22.toNat, 0]
def k0_off10 (k0_t2 : Fin k0_t2_loop.trips) : Fin 3 → Nat :=
  let c0_16 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let v24 : Index := Scalar.indexCast v14
  let c0_17 : Index := 0#32
  ![0, v24.toNat, 0]
def k0_off11 (k0_t2 : Fin k0_t2_loop.trips) : Fin 5 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c0_i32_32 : BitVec 32 := 0#32
  let c0_i32_33 : BitVec 32 := 0#32
  let c0_i32_34 : BitVec 32 := 0#32
  let c0_i32_35 : BitVec 32 := 0#32
  ![v14.toNat, 0, 0, 0, 0]
@[reducible] def k0_t3_loop : Scf.Loop 32 :=
  let c0_i32_87 : BitVec 32 := 0#32
  let c22_i32 : BitVec 32 := 22#32
  let v227 : BitVec 32 := Scalar.addi c0_i32_87 c22_i32
  let c1_i32_88 : BitVec 32 := 1#32
  ⟨c0_i32_87, v227, c1_i32_88⟩
def k0_mult6 (k0_t3 : Fin k0_t3_loop.trips) : BitVec 32 :=
  let c0_i32_87 : BitVec 32 := 0#32
  let c1_i32_88 : BitVec 32 := 1#32
  let arg15 : BitVec 32 := Scf.iv c0_i32_87 c1_i32_88 k0_t3
  let c128_i32_122 : BitVec 32 := 128#32
  let v408 : BitVec 32 := Scalar.muli arg15 c128_i32_122
  v408
def k0_off12 (k0_t2 : Fin k0_t2_loop.trips) (k0_t3 : Fin k0_t3_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32 : BitVec 32 := 256#32
  let v15 : BitVec 32 := Scalar.muli v14 c256_i32
  let v16 : BitVec 32 := v15
  let v410 : Index := Scalar.indexCast v16
  let c0_i32_87 : BitVec 32 := 0#32
  let c1_i32_88 : BitVec 32 := 1#32
  let arg15 : BitVec 32 := Scf.iv c0_i32_87 c1_i32_88 k0_t3
  let c128_i32_122 : BitVec 32 := 128#32
  let v408 : BitVec 32 := Scalar.muli arg15 c128_i32_122
  let v409 : BitVec 32 := v408
  let v411 : Index := Scalar.indexCast v409
  ![v410.toNat, v411.toNat]
def k0_off13 (k0_t2 : Fin k0_t2_loop.trips) : Fin 5 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c0_i32_129 : BitVec 32 := 0#32
  let c0_i32_130 : BitVec 32 := 0#32
  let c0_i32_131 : BitVec 32 := 0#32
  let c0_i32_132 : BitVec 32 := 0#32
  ![v14.toNat, 0, 0, 0, 0]
def k0_off14 (k0_t3 : Fin k0_t3_loop.trips) (c0_i32_128 : BitVec 32) : Fin 4 → Nat :=
  let c0_133 : Index := 0#32
  let c0_134 : Index := 0#32
  let c0_i32_87 : BitVec 32 := 0#32
  let c1_i32_88 : BitVec 32 := 1#32
  let arg15 : BitVec 32 := Scf.iv c0_i32_87 c1_i32_88 k0_t3
  let c2_i32_127 : BitVec 32 := 2#32
  let v445 : BitVec 32 := Scalar.muli arg15 c2_i32_127
  let v446 : BitVec 32 := Scalar.addi v445 c0_i32_128
  let v449 : Index := Scalar.indexCast v446
  let c0_135 : Index := 0#32
  ![0, 0, v449.toNat, 0]
def k0_off15 (k0_t3 : Fin k0_t3_loop.trips) (c0_i32_137 : BitVec 32) : Fin 4 → Nat :=
  let c1_142 : Index := 1#32
  let c0_143 : Index := 0#32
  let c0_i32_87 : BitVec 32 := 0#32
  let c1_i32_88 : BitVec 32 := 1#32
  let arg15 : BitVec 32 := Scf.iv c0_i32_87 c1_i32_88 k0_t3
  let c2_i32_136 : BitVec 32 := 2#32
  let v457 : BitVec 32 := Scalar.muli arg15 c2_i32_136
  let v458 : BitVec 32 := Scalar.addi v457 c0_i32_137
  let v461 : Index := Scalar.indexCast v458
  let c0_144 : Index := 0#32
  ![1, 0, v461.toNat, 0]
def k0_off16 (k0_t3 : Fin k0_t3_loop.trips) (c0_i32_224 : BitVec 32) : Fin 4 → Nat :=
  let c0_229 : Index := 0#32
  let c1_230 : Index := 1#32
  let c0_i32_87 : BitVec 32 := 0#32
  let c1_i32_88 : BitVec 32 := 1#32
  let arg15 : BitVec 32 := Scf.iv c0_i32_87 c1_i32_88 k0_t3
  let c2_i32_223 : BitVec 32 := 2#32
  let v643 : BitVec 32 := Scalar.muli arg15 c2_i32_223
  let v644 : BitVec 32 := Scalar.addi v643 c0_i32_224
  let v647 : Index := Scalar.indexCast v644
  let c0_231 : Index := 0#32
  ![0, 1, v647.toNat, 0]
def k0_off17 (k0_t3 : Fin k0_t3_loop.trips) (c0_i32_233 : BitVec 32) : Fin 4 → Nat :=
  let c1_238 : Index := 1#32
  let c1_239 : Index := 1#32
  let c0_i32_87 : BitVec 32 := 0#32
  let c1_i32_88 : BitVec 32 := 1#32
  let arg15 : BitVec 32 := Scf.iv c0_i32_87 c1_i32_88 k0_t3
  let c2_i32_232 : BitVec 32 := 2#32
  let v655 : BitVec 32 := Scalar.muli arg15 c2_i32_232
  let v656 : BitVec 32 := Scalar.addi v655 c0_i32_233
  let v659 : Index := Scalar.indexCast v656
  let c0_240 : Index := 0#32
  ![1, 1, v659.toNat, 0]
def k0_mult7 (k0_t3 : Fin k0_t3_loop.trips) : BitVec 32 :=
  let c0_i32_87 : BitVec 32 := 0#32
  let c1_i32_88 : BitVec 32 := 1#32
  let arg15 : BitVec 32 := Scf.iv c0_i32_87 c1_i32_88 k0_t3
  let c256_i32_505 : BitVec 32 := 256#32
  let v1216 : BitVec 32 := Scalar.muli arg15 c256_i32_505
  v1216
def k0_off18 (k0_t3 : Fin k0_t3_loop.trips) : Fin 2 → Nat :=
  let c0_506 : Index := 0#32
  let c0_i32_87 : BitVec 32 := 0#32
  let c1_i32_88 : BitVec 32 := 1#32
  let arg15 : BitVec 32 := Scf.iv c0_i32_87 c1_i32_88 k0_t3
  let c256_i32_505 : BitVec 32 := 256#32
  let v1216 : BitVec 32 := Scalar.muli arg15 c256_i32_505
  let v1217 : BitVec 32 := v1216
  let v1218 : Index := Scalar.indexCast v1217
  ![0, v1218.toNat]
def k0_off19 (k0_t2 : Fin k0_t2_loop.trips) : Fin 2 → Nat :=
  let c0_90 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v229 : Index := Scalar.indexCast v18
  ![0, v229.toNat]
def k0_off20 (k0_t2 : Fin k0_t2_loop.trips) : Fin 2 → Nat :=
  let c0_91 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v232 : Index := Scalar.indexCast v21
  ![0, v232.toNat]
def k0_off21 (k0_t2 : Fin k0_t2_loop.trips) : Fin 2 → Nat :=
  let c0_102 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v298 : Index := Scalar.indexCast v18
  ![0, v298.toNat]
def k0_off22 (k0_t2 : Fin k0_t2_loop.trips) : Fin 2 → Nat :=
  let c0_103 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v301 : Index := Scalar.indexCast v21
  ![0, v301.toNat]
def k0_off23 (k0_t2 : Fin k0_t2_loop.trips) : Fin 2 → Nat :=
  let c16 : Index := 16#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v333 : Index := Scalar.indexCast v18
  ![16, v333.toNat]
def k0_off24 (k0_t2 : Fin k0_t2_loop.trips) : Fin 2 → Nat :=
  let c16_109 : Index := 16#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v336 : Index := Scalar.indexCast v21
  ![16, v336.toNat]
def k0_off25 (k0_t2 : Fin k0_t2_loop.trips) : Fin 2 → Nat :=
  let c32 : Index := 32#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v368 : Index := Scalar.indexCast v18
  ![32, v368.toNat]
def k0_off26 (k0_t2 : Fin k0_t2_loop.trips) : Fin 2 → Nat :=
  let c32_115 : Index := 32#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v371 : Index := Scalar.indexCast v21
  ![32, v371.toNat]
def k0_off27 (k0_t2 : Fin k0_t2_loop.trips) : Fin 2 → Nat :=
  let c48 : Index := 48#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v403 : Index := Scalar.indexCast v18
  ![48, v403.toNat]
def k0_off28 (k0_t2 : Fin k0_t2_loop.trips) : Fin 2 → Nat :=
  let c48_121 : Index := 48#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v406 : Index := Scalar.indexCast v21
  ![48, v406.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2816 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x88 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S64x1x5632 : Shape := ⟨3, ![64, 1, 5632]⟩
abbrev S17280x2816 : Shape := ⟨2, ![17280, 2816]⟩
abbrev S17280x88 : Shape := ⟨2, ![17280, 88]⟩
abbrev S5940 : Shape := ⟨1, ![5940]⟩
abbrev S_ : Shape := ⟨0, ![]⟩
abbrev S5632x16 : Shape := ⟨2, ![5632, 16]⟩
abbrev S16x17280 : Shape := ⟨2, ![16, 17280]⟩
abbrev S32x128 : Shape := ⟨2, ![32, 128]⟩
abbrev S5984 : Shape := ⟨1, ![5984]⟩
abbrev S17x4x88 : Shape := ⟨3, ![17, 4, 88]⟩
abbrev S17x4x128 : Shape := ⟨3, ![17, 4, 128]⟩
abbrev S64x5632 : Shape := ⟨2, ![64, 5632]⟩
abbrev S1 : Shape := ⟨1, ![1]⟩
abbrev S64x17280 : Shape := ⟨2, ![64, 17280]⟩
abbrev S1024x2816 : Shape := ⟨2, ![1024, 2816]⟩
abbrev S1024x88 : Shape := ⟨2, ![1024, 88]⟩
abbrev S1x4x128 : Shape := ⟨3, ![1, 4, 128]⟩
abbrev S16x1024 : Shape := ⟨2, ![16, 1024]⟩
abbrev S64x1024 : Shape := ⟨2, ![64, 1024]⟩
abbrev S64x16 : Shape := ⟨2, ![64, 16]⟩
abbrev S4x2x2x44x128 : Shape := ⟨5, ![4, 2, 2, 44, 128]⟩
abbrev S4x2x2x44x2x128 : Shape := ⟨6, ![4, 2, 2, 44, 2, 128]⟩
abbrev S4x2x2x44x1x128 : Shape := ⟨6, ![4, 2, 2, 44, 1, 128]⟩
abbrev S16x128 : Shape := ⟨2, ![16, 128]⟩
abbrev S16x128x1 : Shape := ⟨3, ![16, 128, 1]⟩
abbrev S256x88 : Shape := ⟨2, ![256, 88]⟩
abbrev S1x1x128 : Shape := ⟨3, ![1, 1, 128]⟩
abbrev S1x128 : Shape := ⟨2, ![1, 128]⟩
abbrev S64x88 : Shape := ⟨2, ![64, 88]⟩
abbrev S128x88 : Shape := ⟨2, ![128, 88]⟩
abbrev S88x128 : Shape := ⟨2, ![88, 128]⟩
abbrev S44x128 : Shape := ⟨2, ![44, 128]⟩
abbrev S1x128x1 : Shape := ⟨3, ![1, 128, 1]⟩
abbrev S1x2x2x44x2x128 : Shape := ⟨6, ![1, 2, 2, 44, 2, 128]⟩
abbrev S2x2x44x2x128 : Shape := ⟨5, ![2, 2, 44, 2, 128]⟩
abbrev S1x1x44x128 : Shape := ⟨4, ![1, 1, 44, 128]⟩
abbrev S1x1x44x2x128 : Shape := ⟨5, ![1, 1, 44, 2, 128]⟩
abbrev S1x1x44x1x128 : Shape := ⟨5, ![1, 1, 44, 1, 128]⟩
abbrev S64x256 : Shape := ⟨2, ![64, 256]⟩
abbrev S256x128 : Shape := ⟨2, ![256, 128]⟩
abbrev S64x128 : Shape := ⟨2, ![64, 128]⟩
abbrev S128x128 : Shape := ⟨2, ![128, 128]⟩
abbrev S8x128 : Shape := ⟨2, ![8, 128]⟩
abbrev S32x128x1 : Shape := ⟨3, ![32, 128, 1]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S128x256 : Shape := ⟨2, ![128, 256]⟩
abbrev S256x256 : Shape := ⟨2, ![256, 256]⟩
abbrev S16x256 : Shape := ⟨2, ![16, 256]⟩

abbrev nBuf : Space → Nat
  | .hbm => 19
  | .vmem => 17
  | .smem => 1
  | _ => 0

abbrev bufTy : (tb : Table) → Fin (tcTables nBuf tb) → BufTy
  | .hbm, ⟨0, _⟩ => ⟨S64x1x5632, .bf16⟩
  | .hbm, ⟨1, _⟩ => ⟨S17280x2816, .i8⟩
  | .hbm, ⟨2, _⟩ => ⟨S17280x88, .i8⟩
  | .hbm, ⟨3, _⟩ => ⟨S5940, .f32⟩
  | .hbm, ⟨4, _⟩ => ⟨S_, .f32⟩
  | .hbm, ⟨5, _⟩ => ⟨S5632x16, .bf16⟩
  | .hbm, ⟨6, _⟩ => ⟨S16x17280, .bf16⟩
  | .hbm, ⟨7, _⟩ => ⟨S32x128, .i8⟩
  | .hbm, ⟨8, _⟩ => ⟨S32x128, .i8⟩
  | .hbm, ⟨9, _⟩ => ⟨S_, .i32⟩
  | .hbm, ⟨10, _⟩ => ⟨S_, .f32⟩
  | .hbm, ⟨11, _⟩ => ⟨S5984, .f32⟩
  | .hbm, ⟨12, _⟩ => ⟨S17x4x88, .f32⟩
  | .hbm, ⟨13, _⟩ => ⟨S_, .i32⟩
  | .hbm, ⟨14, _⟩ => ⟨S_, .f32⟩
  | .hbm, ⟨15, _⟩ => ⟨S17x4x128, .f32⟩
  | .hbm, ⟨16, _⟩ => ⟨S64x5632, .bf16⟩
  | .hbm, ⟨17, _⟩ => ⟨S1, .f32⟩
  | .hbm, ⟨18, _⟩ => ⟨S64x17280, .bf16⟩
  | .local _ .vmem, ⟨0, _⟩ => ⟨S64x5632, .bf16⟩
  | .local _ .vmem, ⟨1, _⟩ => ⟨S1024x2816, .i8⟩
  | .local _ .vmem, ⟨2, _⟩ => ⟨S1024x2816, .i8⟩
  | .local _ .vmem, ⟨3, _⟩ => ⟨S1024x88, .i8⟩
  | .local _ .vmem, ⟨4, _⟩ => ⟨S1024x88, .i8⟩
  | .local _ .vmem, ⟨5, _⟩ => ⟨S1x4x128, .f32⟩
  | .local _ .vmem, ⟨6, _⟩ => ⟨S1x4x128, .f32⟩
  | .local _ .vmem, ⟨7, _⟩ => ⟨S5632x16, .bf16⟩
  | .local _ .vmem, ⟨8, _⟩ => ⟨S16x1024, .bf16⟩
  | .local _ .vmem, ⟨9, _⟩ => ⟨S16x1024, .bf16⟩
  | .local _ .vmem, ⟨10, _⟩ => ⟨S32x128, .i8⟩
  | .local _ .vmem, ⟨11, _⟩ => ⟨S32x128, .i8⟩
  | .local _ .vmem, ⟨12, _⟩ => ⟨S64x1024, .bf16⟩
  | .local _ .vmem, ⟨13, _⟩ => ⟨S64x1024, .bf16⟩
  | .local _ .vmem, ⟨14, _⟩ => ⟨S64x5632, .bf16⟩
  | .local _ .vmem, ⟨15, _⟩ => ⟨S64x16, .bf16⟩
  | .local _ .vmem, ⟨16, _⟩ => ⟨S4x2x2x44x2x128, .bf16⟩
  | .local _ .smem, ⟨0, _⟩ => ⟨S1, .f32⟩
  | _, _ => ⟨S64x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c22_i32 : BitVec 32 := 22#32
  let v21 : BitVec 32 := Scalar.addi c0_i32_17 c22_i32
  let c1_i32_18 : BitVec 32 := 1#32
  ⟨c0_i32_17, v21, c1_i32_18⟩
def k0_mult1 (k0_t1 : Fin k0_t1_loop.trips) : BitVec 32 :=
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  v24
def k0_mult2 (k0_t1 : Fin k0_t1_loop.trips) : BitVec 32 :=
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  v27
def k0_off1 (k0_t1 : Fin k0_t1_loop.trips) : Fin 2 → Nat :=
  let c0_23 : Index := 0#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v29 : Index := Scalar.indexCast v25
  ![0, v29.toNat]
def k0_off2 (k0_t1 : Fin k0_t1_loop.trips) : Fin 2 → Nat :=
  let c0_24 : Index := 0#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v33 : Index := Scalar.indexCast v28
  ![0, v33.toNat]
def k0_off3 (k0_t1 : Fin k0_t1_loop.trips) : Fin 2 → Nat :=
  let c16 : Index := 16#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v72 : Index := Scalar.indexCast v25
  ![16, v72.toNat]
def k0_off4 (k0_t1 : Fin k0_t1_loop.trips) : Fin 2 → Nat :=
  let c16_29 : Index := 16#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v76 : Index := Scalar.indexCast v28
  ![16, v76.toNat]
def k0_off5 (k0_t1 : Fin k0_t1_loop.trips) : Fin 2 → Nat :=
  let c32 : Index := 32#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v115 : Index := Scalar.indexCast v25
  ![32, v115.toNat]
def k0_off6 (k0_t1 : Fin k0_t1_loop.trips) : Fin 2 → Nat :=
  let c32_37 : Index := 32#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v119 : Index := Scalar.indexCast v28
  ![32, v119.toNat]
def k0_off7 (k0_t1 : Fin k0_t1_loop.trips) : Fin 2 → Nat :=
  let c48 : Index := 48#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32 : BitVec 32 := 256#32
  let v24 : BitVec 32 := Scalar.muli v23 c256_i32
  let v25 : BitVec 32 := v24
  let v158 : Index := Scalar.indexCast v25
  ![48, v158.toNat]
def k0_off8 (k0_t1 : Fin k0_t1_loop.trips) : Fin 2 → Nat :=
  let c48_45 : Index := 48#32
  let c0_i32_21 : BitVec 32 := 0#32
  let c0_i32_17 : BitVec 32 := 0#32
  let c1_i32_18 : BitVec 32 := 1#32
  let arg14 : BitVec 32 := Scf.iv c0_i32_17 c1_i32_18 k0_t1
  let c1_i32_20 : BitVec 32 := 1#32
  let v22 : BitVec 32 := Scalar.muli arg14 c1_i32_20
  let v23 : BitVec 32 := Scalar.addi c0_i32_21 v22
  let c256_i32_22 : BitVec 32 := 256#32
  let v26 : BitVec 32 := Scalar.muli v23 c256_i32_22
  let c128_i32 : BitVec 32 := 128#32
  let v27 : BitVec 32 := Scalar.addi v26 c128_i32
  let v28 : BitVec 32 := v27
  let v162 : Index := Scalar.indexCast v28
  ![48, v162.toNat]
@[reducible] def k0_t2_loop : Scf.Loop 32 :=
  let c0_i32_8 : BitVec 32 := 0#32
  let c4_i32 : BitVec 32 := 4#32
  let v12 : BitVec 32 := Scalar.addi c0_i32_8 c4_i32
  let c1_i32_9 : BitVec 32 := 1#32
  ⟨c0_i32_8, v12, c1_i32_9⟩
def k0_mult3 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32 : BitVec 32 := 256#32
  let v15 : BitVec 32 := Scalar.muli v14 c256_i32
  v15
def k0_mult4 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  v17
def k0_mult5 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  v20
def k0_off9 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32 : BitVec 32 := 256#32
  let v15 : BitVec 32 := Scalar.muli v14 c256_i32
  let v16 : BitVec 32 := v15
  let v22 : Index := Scalar.indexCast v16
  let c0_15 : Index := 0#32
  ![v22.toNat, 0]
def k0_off10 (k0_t2 : Fin k0_t2_loop.trips) : Fin 3 → Nat :=
  let c0_16 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let v24 : Index := Scalar.indexCast v14
  let c0_17 : Index := 0#32
  ![0, v24.toNat, 0]
def k0_off11 (k0_t2 : Fin k0_t2_loop.trips) : Fin 6 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c0_i32_32 : BitVec 32 := 0#32
  let c0_i32_33 : BitVec 32 := 0#32
  let c0_i32_34 : BitVec 32 := 0#32
  let c0_i32_35 : BitVec 32 := 0#32
  ![v14.toNat, 0, 0, 0, 0, 0]
@[reducible] def k0_t3_loop : Scf.Loop 32 :=
  let c0_i32_87 : BitVec 32 := 0#32
  let c22_i32 : BitVec 32 := 22#32
  let v227 : BitVec 32 := Scalar.addi c0_i32_87 c22_i32
  let c1_i32_88 : BitVec 32 := 1#32
  ⟨c0_i32_87, v227, c1_i32_88⟩
def k0_mult6 (k0_t3 : Fin k0_t3_loop.trips) : BitVec 32 :=
  let c0_i32_87 : BitVec 32 := 0#32
  let c1_i32_88 : BitVec 32 := 1#32
  let arg15 : BitVec 32 := Scf.iv c0_i32_87 c1_i32_88 k0_t3
  let c128_i32_122 : BitVec 32 := 128#32
  let v408 : BitVec 32 := Scalar.muli arg15 c128_i32_122
  v408
def k0_off12 (k0_t2 : Fin k0_t2_loop.trips) (k0_t3 : Fin k0_t3_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32 : BitVec 32 := 256#32
  let v15 : BitVec 32 := Scalar.muli v14 c256_i32
  let v16 : BitVec 32 := v15
  let v410 : Index := Scalar.indexCast v16
  let c0_i32_87 : BitVec 32 := 0#32
  let c1_i32_88 : BitVec 32 := 1#32
  let arg15 : BitVec 32 := Scf.iv c0_i32_87 c1_i32_88 k0_t3
  let c128_i32_122 : BitVec 32 := 128#32
  let v408 : BitVec 32 := Scalar.muli arg15 c128_i32_122
  let v409 : BitVec 32 := v408
  let v411 : Index := Scalar.indexCast v409
  ![v410.toNat, v411.toNat]
def k0_off13 (k0_t2 : Fin k0_t2_loop.trips) : Fin 6 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c0_i32_129 : BitVec 32 := 0#32
  let c0_i32_130 : BitVec 32 := 0#32
  let c0_i32_131 : BitVec 32 := 0#32
  let c0_i32_132 : BitVec 32 := 0#32
  ![v14.toNat, 0, 0, 0, 0, 0]
def k0_off14 (k0_t3 : Fin k0_t3_loop.trips) (c0_i32_128 : BitVec 32) : Fin 5 → Nat :=
  let c0_133 : Index := 0#32
  let c0_134 : Index := 0#32
  let c0_i32_87 : BitVec 32 := 0#32
  let c1_i32_88 : BitVec 32 := 1#32
  let arg15 : BitVec 32 := Scf.iv c0_i32_87 c1_i32_88 k0_t3
  let c2_i32_127 : BitVec 32 := 2#32
  let v445 : BitVec 32 := Scalar.muli arg15 c2_i32_127
  let v446 : BitVec 32 := Scalar.addi v445 c0_i32_128
  let v449 : Index := Scalar.indexCast v446
  let c0_135 : Index := 0#32
  ![0, 0, v449.toNat, 0, 0]
def k0_off15 (k0_t3 : Fin k0_t3_loop.trips) (c0_i32_137 : BitVec 32) : Fin 5 → Nat :=
  let c1_142 : Index := 1#32
  let c0_143 : Index := 0#32
  let c0_i32_87 : BitVec 32 := 0#32
  let c1_i32_88 : BitVec 32 := 1#32
  let arg15 : BitVec 32 := Scf.iv c0_i32_87 c1_i32_88 k0_t3
  let c2_i32_136 : BitVec 32 := 2#32
  let v457 : BitVec 32 := Scalar.muli arg15 c2_i32_136
  let v458 : BitVec 32 := Scalar.addi v457 c0_i32_137
  let v461 : Index := Scalar.indexCast v458
  let c0_144 : Index := 0#32
  ![1, 0, v461.toNat, 0, 0]
def k0_off16 (k0_t3 : Fin k0_t3_loop.trips) (c0_i32_224 : BitVec 32) : Fin 5 → Nat :=
  let c0_229 : Index := 0#32
  let c1_230 : Index := 1#32
  let c0_i32_87 : BitVec 32 := 0#32
  let c1_i32_88 : BitVec 32 := 1#32
  let arg15 : BitVec 32 := Scf.iv c0_i32_87 c1_i32_88 k0_t3
  let c2_i32_223 : BitVec 32 := 2#32
  let v643 : BitVec 32 := Scalar.muli arg15 c2_i32_223
  let v644 : BitVec 32 := Scalar.addi v643 c0_i32_224
  let v647 : Index := Scalar.indexCast v644
  let c0_231 : Index := 0#32
  ![0, 1, v647.toNat, 0, 0]
def k0_off17 (k0_t3 : Fin k0_t3_loop.trips) (c0_i32_233 : BitVec 32) : Fin 5 → Nat :=
  let c1_238 : Index := 1#32
  let c1_239 : Index := 1#32
  let c0_i32_87 : BitVec 32 := 0#32
  let c1_i32_88 : BitVec 32 := 1#32
  let arg15 : BitVec 32 := Scf.iv c0_i32_87 c1_i32_88 k0_t3
  let c2_i32_232 : BitVec 32 := 2#32
  let v655 : BitVec 32 := Scalar.muli arg15 c2_i32_232
  let v656 : BitVec 32 := Scalar.addi v655 c0_i32_233
  let v659 : Index := Scalar.indexCast v656
  let c0_240 : Index := 0#32
  ![1, 1, v659.toNat, 0, 0]
def k0_mult7 (k0_t3 : Fin k0_t3_loop.trips) : BitVec 32 :=
  let c0_i32_87 : BitVec 32 := 0#32
  let c1_i32_88 : BitVec 32 := 1#32
  let arg15 : BitVec 32 := Scf.iv c0_i32_87 c1_i32_88 k0_t3
  let c256_i32_505 : BitVec 32 := 256#32
  let v1216 : BitVec 32 := Scalar.muli arg15 c256_i32_505
  v1216
def k0_off18 (k0_t3 : Fin k0_t3_loop.trips) : Fin 2 → Nat :=
  let c0_506 : Index := 0#32
  let c0_i32_87 : BitVec 32 := 0#32
  let c1_i32_88 : BitVec 32 := 1#32
  let arg15 : BitVec 32 := Scf.iv c0_i32_87 c1_i32_88 k0_t3
  let c256_i32_505 : BitVec 32 := 256#32
  let v1216 : BitVec 32 := Scalar.muli arg15 c256_i32_505
  let v1217 : BitVec 32 := v1216
  let v1218 : Index := Scalar.indexCast v1217
  ![0, v1218.toNat]
def k0_off19 (k0_t2 : Fin k0_t2_loop.trips) : Fin 2 → Nat :=
  let c0_90 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v229 : Index := Scalar.indexCast v18
  ![0, v229.toNat]
def k0_off20 (k0_t2 : Fin k0_t2_loop.trips) : Fin 2 → Nat :=
  let c0_91 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v232 : Index := Scalar.indexCast v21
  ![0, v232.toNat]
def k0_off21 (k0_t2 : Fin k0_t2_loop.trips) : Fin 2 → Nat :=
  let c0_102 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v298 : Index := Scalar.indexCast v18
  ![0, v298.toNat]
def k0_off22 (k0_t2 : Fin k0_t2_loop.trips) : Fin 2 → Nat :=
  let c0_103 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v301 : Index := Scalar.indexCast v21
  ![0, v301.toNat]
def k0_off23 (k0_t2 : Fin k0_t2_loop.trips) : Fin 2 → Nat :=
  let c16 : Index := 16#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v333 : Index := Scalar.indexCast v18
  ![16, v333.toNat]
def k0_off24 (k0_t2 : Fin k0_t2_loop.trips) : Fin 2 → Nat :=
  let c16_109 : Index := 16#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v336 : Index := Scalar.indexCast v21
  ![16, v336.toNat]
def k0_off25 (k0_t2 : Fin k0_t2_loop.trips) : Fin 2 → Nat :=
  let c32 : Index := 32#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v368 : Index := Scalar.indexCast v18
  ![32, v368.toNat]
def k0_off26 (k0_t2 : Fin k0_t2_loop.trips) : Fin 2 → Nat :=
  let c32_115 : Index := 32#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v371 : Index := Scalar.indexCast v21
  ![32, v371.toNat]
def k0_off27 (k0_t2 : Fin k0_t2_loop.trips) : Fin 2 → Nat :=
  let c48 : Index := 48#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_13 : BitVec 32 := 256#32
  let v17 : BitVec 32 := Scalar.muli v14 c256_i32_13
  let v18 : BitVec 32 := v17
  let v403 : Index := Scalar.indexCast v18
  ![48, v403.toNat]
def k0_off28 (k0_t2 : Fin k0_t2_loop.trips) : Fin 2 → Nat :=
  let c48_121 : Index := 48#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v13 : BitVec 32 := Scalar.muli arg14 c1_i32_11
  let v14 : BitVec 32 := Scalar.addi c0_i32_12 v13
  let c256_i32_14 : BitVec 32 := 256#32
  let v19 : BitVec 32 := Scalar.muli v14 c256_i32_14
  let c128_i32 : BitVec 32 := 128#32
  let v20 : BitVec 32 := Scalar.addi v19 c128_i32
  let v21 : BitVec 32 := v20
  let v406 : Index := Scalar.indexCast v21
  ![48, v406.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2816 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x88 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S64x1x5632 : Shape := ⟨3, ![64, 1, 5632]⟩
abbrev S17280x2816 : Shape := ⟨2, ![17280, 2816]⟩
abbrev S17280x88 : Shape := ⟨2, ![17280, 88]⟩
abbrev S5940 : Shape := ⟨1, ![5940]⟩
abbrev S_ : Shape := ⟨0, ![]⟩
abbrev S5632x16 : Shape := ⟨2, ![5632, 16]⟩
abbrev S16x17280 : Shape := ⟨2, ![16, 17280]⟩
abbrev S5940x256 : Shape := ⟨2, ![5940, 256]⟩
abbrev S5940x1 : Shape := ⟨2, ![5940, 1]⟩
abbrev S2816 : Shape := ⟨1, ![2816]⟩
abbrev S1x2816 : Shape := ⟨2, ![1, 2816]⟩
abbrev S88 : Shape := ⟨1, ![88]⟩
abbrev S88x1 : Shape := ⟨2, ![88, 1]⟩
abbrev S88x2816 : Shape := ⟨2, ![88, 2816]⟩
abbrev S64x5632 : Shape := ⟨2, ![64, 5632]⟩
abbrev S64x2816 : Shape := ⟨2, ![64, 2816]⟩
abbrev S64x17280 : Shape := ⟨2, ![64, 17280]⟩
abbrev S64x16 : Shape := ⟨2, ![64, 16]⟩

abbrev nBuf : Space → Nat
  | .hbm => 234
  | .vmem => 0
  | .smem => 0
  | _ => 0

abbrev hbmTy0_0 (i : Nat) : BufTy := match i % 128 with
  | 0 => ⟨S64x1x5632, .bf16⟩
  | 1 => ⟨S17280x2816, .i8⟩
  | 2 => ⟨S17280x88, .i8⟩
  | 3 => ⟨S5940, .f32⟩
  | 4 => ⟨S_, .f32⟩
  | 5 => ⟨S5632x16, .bf16⟩
  | 6 => ⟨S16x17280, .bf16⟩
  | 7 => ⟨S5940x256, .i8⟩
  | 8 => ⟨S5940x256, .i32⟩
  | 9 => ⟨S5940x256, .f32⟩
  | 10 => ⟨S5940x1, .f32⟩
  | 11 => ⟨S5940x256, .f32⟩
  | 12 => ⟨S5940x256, .f32⟩
  | 13 => ⟨S5940x256, .f32⟩
  | 14 => ⟨S5940x256, .f32⟩
  | 15 => ⟨S17280x88, .f32⟩
  | 16 => ⟨S17280x88, .bf16⟩
  | 17 => ⟨S2816, .i32⟩
  | 18 => ⟨S1x2816, .i32⟩
  | 19 => ⟨S_, .i32⟩
  | 20 => ⟨S_, .i32⟩
  | 21 => ⟨S1x2816, .i32⟩
  | 22 => ⟨S1x2816, .i32⟩
  | 23 => ⟨S1x2816, .i32⟩
  | 24 => ⟨S_, .i32⟩
  | 25 => ⟨S1x2816, .i32⟩
  | 26 => ⟨S1x2816, .i1⟩
  | 27 => ⟨S1x2816, .i32⟩
  | 28 => ⟨S1x2816, .i32⟩
  | 29 => ⟨S_, .i32⟩
  | 30 => ⟨S1x2816, .i32⟩
  | 31 => ⟨S1x2816, .i1⟩
  | 32 => ⟨S1x2816, .i1⟩
  | 33 => ⟨S_, .i32⟩
  | 34 => ⟨S1x2816, .i32⟩
  | 35 => ⟨S1x2816, .i32⟩
  | 36 => ⟨S1x2816, .i32⟩
  | 37 => ⟨S88, .i32⟩
  | 38 => ⟨S88x1, .i32⟩
  | 39 => ⟨S88x2816, .i32⟩
  | 40 => ⟨S88x2816, .i32⟩
  | 41 => ⟨S88x2816, .i1⟩
  | 42 => ⟨S88x2816, .bf16⟩
  | 43 => ⟨S17280x2816, .f32⟩
  | 44 => ⟨S17280x2816, .bf16⟩
  | 45 => ⟨S17280x2816, .i32⟩
  | 46 => ⟨S_, .i32⟩
  | 47 => ⟨S17280x2816, .i32⟩
  | 48 => ⟨S17280x2816, .i32⟩
  | 49 => ⟨S_, .i32⟩
  | 50 => ⟨S17280x2816, .i32⟩
  | 51 => ⟨S17280x2816, .i32⟩
  | 52 => ⟨S_, .i32⟩
  | 53 => ⟨S17280x2816, .i32⟩
  | 54 => ⟨S17280x2816, .i32⟩
  | 55 => ⟨S_, .i32⟩
  | 56 => ⟨S17280x2816, .i32⟩
  | 57 => ⟨S17280x2816, .i1⟩
  | 58 => ⟨S_, .bf16⟩
  | 59 => ⟨S_, .bf16⟩
  | 60 => ⟨S17280x2816, .bf16⟩
  | 61 => ⟨S17280x2816, .bf16⟩
  | 62 => ⟨S17280x2816, .bf16⟩
  | 63 => ⟨S_, .bf16⟩
  | 64 => ⟨S_, .bf16⟩
  | 65 => ⟨S17280x2816, .bf16⟩
  | 66 => ⟨S17280x2816, .bf16⟩
  | 67 => ⟨S17280x2816, .bf16⟩
  | 68 => ⟨S_, .bf16⟩
  | 69 => ⟨S_, .bf16⟩
  | 70 => ⟨S17280x2816, .bf16⟩
  | 71 => ⟨S17280x2816, .bf16⟩
  | 72 => ⟨S17280x2816, .bf16⟩
  | 73 => ⟨S_, .bf16⟩
  | 74 => ⟨S_, .bf16⟩
  | 75 => ⟨S17280x2816, .bf16⟩
  | 76 => ⟨S17280x2816, .bf16⟩
  | 77 => ⟨S17280x2816, .bf16⟩
  | 78 => ⟨S_, .bf16⟩
  | 79 => ⟨S_, .bf16⟩
  | 80 => ⟨S17280x2816, .bf16⟩
  | 81 => ⟨S17280x2816, .bf16⟩
  | 82 => ⟨S17280x2816, .bf16⟩
  | 83 => ⟨S_, .bf16⟩
  | 84 => ⟨S_, .bf16⟩
  | 85 => ⟨S17280x2816, .bf16⟩
  | 86 => ⟨S17280x2816, .bf16⟩
  | 87 => ⟨S17280x2816, .bf16⟩
  | 88 => ⟨S_, .bf16⟩
  | 89 => ⟨S_, .bf16⟩
  | 90 => ⟨S17280x2816, .bf16⟩
  | 91 => ⟨S17280x2816, .bf16⟩
  | 92 => ⟨S17280x2816, .bf16⟩
  | 93 => ⟨S_, .bf16⟩
  | 94 => ⟨S_, .bf16⟩
  | 95 => ⟨S17280x2816, .bf16⟩
  | 96 => ⟨S17280x2816, .bf16⟩
  | 97 => ⟨S17280x2816, .bf16⟩
  | 98 => ⟨S_, .i32⟩
  | 99 => ⟨S17280x2816, .i32⟩
  | 100 => ⟨S17280x2816, .i32⟩
  | 101 => ⟨S_, .i32⟩
  | 102 => ⟨S17280x2816, .i32⟩
  | 103 => ⟨S17280x2816, .i32⟩
  | 104 => ⟨S_, .i32⟩
  | 105 => ⟨S17280x2816, .i32⟩
  | 106 => ⟨S17280x2816, .i1⟩
  | 107 => ⟨S17280x2816, .bf16⟩
  | 108 => ⟨S17280x2816, .bf16⟩
  | 109 => ⟨S17280x2816, .bf16⟩
  | 110 => ⟨S17280x2816, .bf16⟩
  | 111 => ⟨S_, .i32⟩
  | 112 => ⟨S17280x2816, .i32⟩
  | 113 => ⟨S17280x2816, .i32⟩
  | 114 => ⟨S_, .i32⟩
  | 115 => ⟨S17280x2816, .i32⟩
  | 116 => ⟨S17280x2816, .i32⟩
  | 117 => ⟨S_, .i32⟩
  | 118 => ⟨S17280x2816, .i32⟩
  | 119 => ⟨S17280x2816, .i1⟩
  | 120 => ⟨S17280x2816, .bf16⟩
  | 121 => ⟨S17280x2816, .bf16⟩
  | 122 => ⟨S_, .i32⟩
  | 123 => ⟨S17280x2816, .i32⟩
  | 124 => ⟨S17280x2816, .i32⟩
  | 125 => ⟨S_, .i32⟩
  | 126 => ⟨S17280x2816, .i32⟩
  | 127 => ⟨S17280x2816, .i32⟩
  | _ => ⟨S64x1x5632, .bf16⟩

abbrev hbmTy0_1 (i : Nat) : BufTy := match i % 128 with
  | 0 => ⟨S_, .i32⟩
  | 1 => ⟨S17280x2816, .i32⟩
  | 2 => ⟨S17280x2816, .i1⟩
  | 3 => ⟨S17280x2816, .bf16⟩
  | 4 => ⟨S17280x2816, .bf16⟩
  | 5 => ⟨S_, .i32⟩
  | 6 => ⟨S17280x2816, .i32⟩
  | 7 => ⟨S17280x2816, .i32⟩
  | 8 => ⟨S_, .i32⟩
  | 9 => ⟨S17280x2816, .i32⟩
  | 10 => ⟨S17280x2816, .i32⟩
  | 11 => ⟨S_, .i32⟩
  | 12 => ⟨S17280x2816, .i32⟩
  | 13 => ⟨S17280x2816, .i32⟩
  | 14 => ⟨S_, .i32⟩
  | 15 => ⟨S17280x2816, .i32⟩
  | 16 => ⟨S17280x2816, .i1⟩
  | 17 => ⟨S_, .bf16⟩
  | 18 => ⟨S_, .bf16⟩
  | 19 => ⟨S17280x2816, .bf16⟩
  | 20 => ⟨S17280x2816, .bf16⟩
  | 21 => ⟨S17280x2816, .bf16⟩
  | 22 => ⟨S_, .bf16⟩
  | 23 => ⟨S_, .bf16⟩
  | 24 => ⟨S17280x2816, .bf16⟩
  | 25 => ⟨S17280x2816, .bf16⟩
  | 26 => ⟨S17280x2816, .bf16⟩
  | 27 => ⟨S_, .bf16⟩
  | 28 => ⟨S_, .bf16⟩
  | 29 => ⟨S17280x2816, .bf16⟩
  | 30 => ⟨S17280x2816, .bf16⟩
  | 31 => ⟨S17280x2816, .bf16⟩
  | 32 => ⟨S_, .bf16⟩
  | 33 => ⟨S_, .bf16⟩
  | 34 => ⟨S17280x2816, .bf16⟩
  | 35 => ⟨S17280x2816, .bf16⟩
  | 36 => ⟨S17280x2816, .bf16⟩
  | 37 => ⟨S_, .bf16⟩
  | 38 => ⟨S_, .bf16⟩
  | 39 => ⟨S17280x2816, .bf16⟩
  | 40 => ⟨S17280x2816, .bf16⟩
  | 41 => ⟨S17280x2816, .bf16⟩
  | 42 => ⟨S_, .bf16⟩
  | 43 => ⟨S_, .bf16⟩
  | 44 => ⟨S17280x2816, .bf16⟩
  | 45 => ⟨S17280x2816, .bf16⟩
  | 46 => ⟨S17280x2816, .bf16⟩
  | 47 => ⟨S_, .bf16⟩
  | 48 => ⟨S_, .bf16⟩
  | 49 => ⟨S17280x2816, .bf16⟩
  | 50 => ⟨S17280x2816, .bf16⟩
  | 51 => ⟨S17280x2816, .bf16⟩
  | 52 => ⟨S_, .bf16⟩
  | 53 => ⟨S_, .bf16⟩
  | 54 => ⟨S17280x2816, .bf16⟩
  | 55 => ⟨S17280x2816, .bf16⟩
  | 56 => ⟨S17280x2816, .bf16⟩
  | 57 => ⟨S_, .i32⟩
  | 58 => ⟨S17280x2816, .i32⟩
  | 59 => ⟨S17280x2816, .i32⟩
  | 60 => ⟨S_, .i32⟩
  | 61 => ⟨S17280x2816, .i32⟩
  | 62 => ⟨S17280x2816, .i32⟩
  | 63 => ⟨S_, .i32⟩
  | 64 => ⟨S17280x2816, .i32⟩
  | 65 => ⟨S17280x2816, .i1⟩
  | 66 => ⟨S17280x2816, .bf16⟩
  | 67 => ⟨S17280x2816, .bf16⟩
  | 68 => ⟨S17280x2816, .bf16⟩
  | 69 => ⟨S17280x2816, .bf16⟩
  | 70 => ⟨S_, .i32⟩
  | 71 => ⟨S17280x2816, .i32⟩
  | 72 => ⟨S17280x2816, .i32⟩
  | 73 => ⟨S_, .i32⟩
  | 74 => ⟨S17280x2816, .i32⟩
  | 75 => ⟨S17280x2816, .i32⟩
  | 76 => ⟨S_, .i32⟩
  | 77 => ⟨S17280x2816, .i32⟩
  | 78 => ⟨S17280x2816, .i1⟩
  | 79 => ⟨S17280x2816, .bf16⟩
  | 80 => ⟨S17280x2816, .bf16⟩
  | 81 => ⟨S_, .i32⟩
  | 82 => ⟨S17280x2816, .i32⟩
  | 83 => ⟨S17280x2816, .i32⟩
  | 84 => ⟨S_, .i32⟩
  | 85 => ⟨S17280x2816, .i32⟩
  | 86 => ⟨S17280x2816, .i32⟩
  | 87 => ⟨S_, .i32⟩
  | 88 => ⟨S17280x2816, .i32⟩
  | 89 => ⟨S17280x2816, .i1⟩
  | 90 => ⟨S17280x2816, .bf16⟩
  | 91 => ⟨S17280x2816, .bf16⟩
  | 92 => ⟨S64x5632, .bf16⟩
  | 93 => ⟨S64x2816, .bf16⟩
  | 94 => ⟨S64x17280, .f32⟩
  | 95 => ⟨S64x2816, .bf16⟩
  | 96 => ⟨S64x17280, .f32⟩
  | 97 => ⟨S64x17280, .f32⟩
  | 98 => ⟨S64x16, .f32⟩
  | 99 => ⟨S64x16, .bf16⟩
  | 100 => ⟨S64x17280, .f32⟩
  | 101 => ⟨S_, .f32⟩
  | 102 => ⟨S64x17280, .f32⟩
  | 103 => ⟨S64x17280, .f32⟩
  | 104 => ⟨S64x17280, .f32⟩
  | 105 => ⟨S64x17280, .bf16⟩
  | _ => ⟨S64x1x5632, .bf16⟩

abbrev hbmTy (i : Nat) : BufTy := match i / 128 with
  | 0 => hbmTy0_0 i
  | 1 => hbmTy0_1 i
  | _ => ⟨S64x1x5632, .bf16⟩

abbrev bufTy : (tb : Table) → Fin (tcTables nBuf tb) → BufTy
  | .hbm, ⟨i, _⟩ => hbmTy i
  | _, _ => ⟨S64x1x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_0 : Ref sig .tc := ⟨.hbm, 46, rfl⟩
abbrev main_v22 : Ref sig .tc := ⟨.hbm, 47, rfl⟩
abbrev main_v23 : Ref sig .tc := ⟨.hbm, 48, rfl⟩
abbrev main_c_1 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_cst : Ref sig .tc := ⟨.hbm, 58, rfl⟩
abbrev main_cst_4 : Ref sig .tc := ⟨.hbm, 59, rfl⟩
abbrev main_call1_v0 : Ref sig .tc := ⟨.hbm, 60, rfl⟩
abbrev main_call1_v1 : Ref sig .tc := ⟨.hbm, 61, rfl⟩
abbrev main_v30 : Ref sig .tc := ⟨.hbm, 62, rfl⟩
abbrev main_cst_5 : Ref sig .tc := ⟨.hbm, 63, rfl⟩
abbrev main_cst_6 : Ref sig .tc := ⟨.hbm, 64, rfl⟩
abbrev main_call2_v0 : Ref sig .tc := ⟨.hbm, 65, rfl⟩
abbrev main_call2_v1 : Ref sig .tc := ⟨.hbm, 66, rfl⟩
abbrev main_v31 : Ref sig .tc := ⟨.hbm, 67, rfl⟩
abbrev main_cst_7 : Ref sig .tc := ⟨.hbm, 68, rfl⟩
abbrev main_cst_8 : Ref sig .tc := ⟨.hbm, 69, rfl⟩
abbrev main_call3_v0 : Ref sig .tc := ⟨.hbm, 70, rfl⟩
abbrev main_call3_v1 : Ref sig .tc := ⟨.hbm, 71, rfl⟩
abbrev main_v32 : Ref sig .tc := ⟨.hbm, 72, rfl⟩
abbrev main_cst_9 : Ref sig .tc := ⟨.hbm, 73, rfl⟩
abbrev main_cst_10 : Ref sig .tc := ⟨.hbm, 74, rfl⟩
abbrev main_call4_v0 : Ref sig .tc := ⟨.hbm, 75, rfl⟩
abbrev main_call4_v1 : Ref sig .tc := ⟨.hbm, 76, rfl⟩
abbrev main_v33 : Ref sig .tc := ⟨.hbm, 77, rfl⟩
abbrev main_cst_11 : Ref sig .tc := ⟨.hbm, 78, rfl⟩
abbrev main_cst_12 : Ref sig .tc := ⟨.hbm, 79, rfl⟩
abbrev main_call5_v0 : Ref sig .tc := ⟨.hbm, 80, rfl⟩
abbrev main_call5_v1 : Ref sig .tc := ⟨.hbm, 81, rfl⟩
abbrev main_v34 : Ref sig .tc := ⟨.hbm, 82, rfl⟩
abbrev main_cst_13 : Ref sig .tc := ⟨.hbm, 83, rfl⟩
abbrev main_cst_14 : Ref sig .tc := ⟨.hbm, 84, rfl⟩
abbrev main_call6_v0 : Ref sig .tc := ⟨.hbm, 85, rfl⟩
abbrev main_call6_v1 : Ref sig .tc := ⟨.hbm, 86, rfl⟩
abbrev main_v35 : Ref sig .tc := ⟨.hbm, 87, rfl⟩
abbrev main_cst_15 : Ref sig .tc := ⟨.hbm, 88, rfl⟩
abbrev main_cst_16 : Ref sig .tc := ⟨.hbm, 89, rfl⟩
abbrev main_call7_v0 : Ref sig .tc := ⟨.hbm, 90, rfl⟩
abbrev main_call7_v1 : Ref sig .tc := ⟨.hbm, 91, rfl⟩
abbrev main_v36 : Ref sig .tc := ⟨.hbm, 92, rfl⟩
abbrev main_cst_17 : Ref sig .tc := ⟨.hbm, 93, rfl⟩
abbrev main_cst_18 : Ref sig .tc := ⟨.hbm, 94, rfl⟩
abbrev main_call8_v0 : Ref sig .tc := ⟨.hbm, 95, rfl⟩
abbrev main_call8_v1 : Ref sig .tc := ⟨.hbm, 96, rfl⟩
abbrev main_v37 : Ref sig .tc := ⟨.hbm, 97, rfl⟩
abbrev main_c_19 : Ref sig .tc := ⟨.hbm, 98, rfl⟩
abbrev main_v38 : Ref sig .tc := ⟨.hbm, 99, rfl⟩
abbrev main_v39 : Ref sig .tc := ⟨.hbm, 100, rfl⟩
abbrev main_c_20 : Ref sig .tc := ⟨.hbm, 101, rfl⟩
abbrev main_v40 : Ref sig .tc := ⟨.hbm, 102, rfl⟩
abbrev main_v41 : Ref sig .tc := ⟨.hbm, 103, rfl⟩
abbrev main_c_21 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_22 : Ref sig .tc := ⟨.hbm, 111, rfl⟩
abbrev main_v48 : Ref sig .tc := ⟨.hbm, 112, rfl⟩
abbrev main_v49 : Ref sig .tc := ⟨.hbm, 113, rfl⟩
abbrev main_c_23 : Ref sig .tc := ⟨.hbm, 114, rfl⟩
abbrev main_v50 : Ref sig .tc := ⟨.hbm, 115, rfl⟩
abbrev main_v51 : Ref sig .tc := ⟨.hbm, 116, rfl⟩
abbrev main_c_24 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_c_25 : Ref sig .tc := ⟨.hbm, 122, rfl⟩
abbrev main_v56 : Ref sig .tc := ⟨.hbm, 123, rfl⟩
abbrev main_v57 : Ref sig .tc := ⟨.hbm, 124, rfl⟩
abbrev main_c_26 : Ref sig .tc := ⟨.hbm, 125, rfl⟩
abbrev main_v58 : Ref sig .tc := ⟨.hbm, 126, rfl⟩
abbrev main_v59 : Ref sig .tc := ⟨.hbm, 127, rfl⟩
abbrev main_c_27 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_c_28 : Ref sig .tc := ⟨.hbm, 133, rfl⟩
abbrev main_v64 : Ref sig .tc := ⟨.hbm, 134, rfl⟩
abbrev main_v65 : Ref sig .tc := ⟨.hbm, 135, rfl⟩
abbrev main_c_29 : Ref sig .tc := ⟨.hbm, 136, rfl⟩
abbrev main_v66 : Ref sig .tc := ⟨.hbm, 137, rfl⟩
abbrev main_v67 : Ref sig .tc := ⟨.hbm, 138, rfl⟩
abbrev main_c_30 : Ref sig .tc := ⟨.hbm, 139, rfl⟩
abbrev main_v68 : Ref sig .tc := ⟨.hbm, 140, rfl⟩
abbrev main_v69 : Ref sig .tc := ⟨.hbm, 141, rfl⟩
abbrev main_c_31 : Ref sig .tc := ⟨.hbm, 142, rfl⟩
abbrev main_v70 : Ref sig .tc := ⟨.hbm, 143, rfl⟩
abbrev main_v71 : Ref sig .tc := ⟨.hbm, 144, rfl⟩
abbrev main_cst_32 : Ref sig .tc := ⟨.hbm, 145, rfl⟩
abbrev main_cst_33 : Ref sig .tc := ⟨.hbm, 146, rfl⟩
abbrev main_call16_v0 : Ref sig .tc := ⟨.hbm, 147, rfl⟩
abbrev main_call16_v1 : Ref sig .tc := ⟨.hbm, 148, rfl⟩
abbrev main_v72 : Ref sig .tc := ⟨.hbm, 149, rfl⟩
abbrev main_cst_34 : Ref sig .tc := ⟨.hbm, 150, rfl⟩
abbrev main_cst_35 : Ref sig .tc := ⟨.hbm, 151, rfl⟩
abbrev main_call17_v0 : Ref sig .tc := ⟨.hbm, 152, rfl⟩
abbrev main_call17_v1 : Ref sig .tc := ⟨.hbm, 153, rfl⟩
abbrev main_v73 : Ref sig .tc := ⟨.hbm, 154, rfl⟩
abbrev main_cst_36 : Ref sig .tc := ⟨.hbm, 155, rfl⟩
abbrev main_cst_37 : Ref sig .tc := ⟨.hbm, 156, rfl⟩
abbrev main_call18_v0 : Ref sig .tc := ⟨.hbm, 157, rfl⟩
abbrev main_call18_v1 : Ref sig .tc := ⟨.hbm, 158, rfl⟩
abbrev main_v74 : Ref sig .tc := ⟨.hbm, 159, rfl⟩
abbrev main_cst_38 : Ref sig .tc := ⟨.hbm, 160, rfl⟩
abbrev main_cst_39 : Ref sig .tc := ⟨.hbm, 161, rfl⟩
abbrev main_call19_v0 : Ref sig .tc := ⟨.hbm, 162, rfl⟩
abbrev main_call19_v1 : Ref sig .tc := ⟨.hbm, 163, rfl⟩
abbrev main_v75 : Ref sig .tc := ⟨.hbm, 164, rfl⟩
abbrev main_cst_40 : Ref sig .tc := ⟨.hbm, 165, rfl⟩
abbrev main_cst_41 : Ref sig .tc := ⟨.hbm, 166, rfl⟩
abbrev main_call20_v0 : Ref sig .tc := ⟨.hbm, 167, rfl⟩
abbrev main_call20_v1 : Ref sig .tc := ⟨.hbm, 168, rfl⟩
abbrev main_v76 : Ref sig .tc := ⟨.hbm, 169, rfl⟩
abbrev main_cst_42 : Ref sig .tc := ⟨.hbm, 170, rfl⟩
abbrev main_cst_43 : Ref sig .tc := ⟨.hbm, 171, rfl⟩
abbrev main_call21_v0 : Ref sig .tc := ⟨.hbm, 172, rfl⟩
abbrev main_call21_v1 : Ref sig .tc := ⟨.hbm, 173, rfl⟩
abbrev main_v77 : Ref sig .tc := ⟨.hbm, 174, rfl⟩
abbrev main_cst_44 : Ref sig .tc := ⟨.hbm, 175, rfl⟩
abbrev main_cst_45 : Ref sig .tc := ⟨.hbm, 176, rfl⟩
abbrev main_call22_v0 : Ref sig .tc := ⟨.hbm, 177, rfl⟩
abbrev main_call22_v1 : Ref sig .tc := ⟨.hbm, 178, rfl⟩
abbrev main_v78 : Ref sig .tc := ⟨.hbm, 179, rfl⟩
abbrev main_cst_46 : Ref sig .tc := ⟨.hbm, 180, rfl⟩
abbrev main_cst_47 : Ref sig .tc := ⟨.hbm, 181, rfl⟩
abbrev main_call23_v0 : Ref sig .tc := ⟨.hbm, 182, rfl⟩
abbrev main_call23_v1 : Ref sig .tc := ⟨.hbm, 183, rfl⟩
abbrev main_v79 : Ref sig .tc := ⟨.hbm, 184, rfl⟩
abbrev main_c_48 : Ref sig .tc := ⟨.hbm, 185, rfl⟩
abbrev main_v80 : Ref sig .tc := ⟨.hbm, 186, rfl⟩
abbrev main_v81 : Ref sig .tc := ⟨.hbm, 187, rfl⟩
abbrev main_c_49 : Ref sig .tc := ⟨.hbm, 188, rfl⟩
abbrev main_v82 : Ref sig .tc := ⟨.hbm, 189, rfl⟩
abbrev main_v83 : Ref sig .tc := ⟨.hbm, 190, rfl⟩
abbrev main_c_50 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_c_51 : Ref sig .tc := ⟨.hbm, 198, rfl⟩
abbrev main_v90 : Ref sig .tc := ⟨.hbm, 199, rfl⟩
abbrev main_v91 : Ref sig .tc := ⟨.hbm, 200, rfl⟩
abbrev main_c_52 : Ref sig .tc := ⟨.hbm, 201, rfl⟩
abbrev main_v92 : Ref sig .tc := ⟨.hbm, 202, rfl⟩
abbrev main_v93 : Ref sig .tc := ⟨.hbm, 203, rfl⟩
abbrev main_c_53 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_c_54 : Ref sig .tc := ⟨.hbm, 209, rfl⟩
abbrev main_v98 : Ref sig .tc := ⟨.hbm, 210, rfl⟩
abbrev main_v99 : Ref sig .tc := ⟨.hbm, 211, rfl⟩
abbrev main_c_55 : Ref sig .tc := ⟨.hbm, 212, rfl⟩
abbrev main_v100 : Ref sig .tc := ⟨.hbm, 213, rfl⟩
abbrev main_v101 : Ref sig .tc := ⟨.hbm, 214, rfl⟩
abbrev main_c_56 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_cst_57 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩

abbrev nD : Nat := 1
abbrev τ : Topo := Topo.v7x

variable {F : FTy → Type} [FloatOps F]
-- ==== Proof.BitsTrip.lean ====
/- The kernel's column-group loop in `Kernel`: one trip at a symbolic group, run once. It reads the packed weights, the
   block scales, the low-rank factor and the prepared activations, and leaves its pieces in the output block. -/
module

public import proofs.«01_k».proof.Proof.Gen.Kernel.Frame
public import proofs.«01_k».proof.Proof.Gen.Kernel.Loops

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- What a trip of the column-group loop holds: what it reads at its contents, the output block and the scale buffer at
    any. -/
abbrev TripG (c : Dev nD) (arg2 : Memref sig .tc .vmem S1024x2816 .i8) (arg3 : Memref sig .tc .vmem S1024x88 .i8) (arg4 : Memref sig .tc .vmem S1x4x128 .f32) (arg7 : Memref sig .tc .vmem S16x1024 .bf16) (arg11 : Memref sig .tc .vmem S64x5632 .bf16) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11))

set_option maxHeartbeats 4000000 in
/-- One trip of the column-group loop at a symbolic group `k`: the pieces it writes into the output block are found by
    the run, as a function of what the scale buffer held. -/
@[irreducible] def tripG (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (k : Fin k0_t2_loop.trips) (mv : Memref sig .tc .vmem S2x2x44x128 .i32) (hcanon_a : (arg13.slice (Rect.unit (s := S4x2x2x44x128) (k0_off11 k) S1x2x2x44x128.size (k0_off11_inb k)) (fun _ => rfl)).squeeze S2x2x44x128 squeezes_S1x2x2x44x128_S2x2x44x128 = mv) (hcanon_b : (arg13.slice (Rect.unit (s := S4x2x2x44x128) (k0_off13 k) S1x2x2x44x128.size (k0_off13_inb k)) (fun _ => rfl)).squeeze S2x2x44x128 squeezes_S1x2x2x44x128_S2x2x44x128 = mv) :
    { L : BufTy.Contents (Elt F) mv.view.ty → List (View.Piece (Elt F) S64x1024 .bf16) // ∀ (E : Set ℕ) (f10 : BufTy.Contents (Elt F) arg10.view.ty) (f13 : BufTy.Contents (Elt F) mv.view.ty),
      iprop(TripG c arg2 arg3 arg4 arg7 arg11 X2 X3 X4 X7 X11 ∗ (arg10.view.loc (c : Thread nD τ) ↦[arg10.view.set]{fullShare} f10) ∗ (mv.view.loc (c : Thread nD τ) ↦[mv.view.set]{fullShare} f13))
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 v3 v4 v10 v11 k PUnit.unit)
          (fun _ => iprop(TripG c arg2 arg3 arg4 arg7 arg11 X2 X3 X4 X7 X11 ∗ (arg10.view.loc (c : Thread nD τ) ↦[arg10.view.set]{fullShare} (arg10.view.writes (Elt F) f10 (L f13))) ∗ ∃ f13', (mv.view.loc (c : Thread nD τ) ↦[mv.view.set]{fullShare} f13'))) } := by
  have hk : k.val < 4 := Nat.lt_of_lt_of_le k.isLt k0_t2_abs.2.1
  refine ⟨?_, fun E f10 f13 => ?run⟩
  case run =>
    unfold k0_t2_body
    iintro ⟨⟨H2, H3, H4, H7, H11⟩, H10, H13⟩
    sl_exec
    sl_step
    sl_close

end Cert.Kernel.Body

end
-- ==== Proof.BitsLoop.lean ====
/- The kernel body of `Kernel` as a separation-logic triple: the column-group loop by its invariant, then the body at the
   first grid point (where the scratch is filled) and at the others (where it is read as it stands). -/
module

public import proofs.«01_k».proof.Proof.Gen.Kernel.Frame
public import proofs.«01_k».proof.Proof.Gen.Kernel.Loops
public import proofs.«01_k».proof.Proof.BitsTrip

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- Group `k`'s part of the scale buffer. -/
abbrev slab (arg13 : Memref sig .tc .vmem S4x2x2x44x128 .i32) (k : Fin k0_t2_loop.trips) : Memref sig .tc .vmem S2x2x44x128 .i32 :=
  (arg13.slice (Rect.unit (s := S4x2x2x44x128) (k0_off13 k) S1x2x2x44x128.size (k0_off13_inb k)) (fun _ => rfl)).squeeze S2x2x44x128 squeezes_S1x2x2x44x128_S2x2x44x128

theorem slab_eq (arg13 : Memref sig .tc .vmem S4x2x2x44x128 .i32) (o o' : Fin S4x2x2x44x128.rank → ℕ) (h : o = o') (hb : ∀ a, o a + S1x2x2x44x128.size a ≤ S4x2x2x44x128.size a)
    (hb' : ∀ a, o' a + S1x2x2x44x128.size a ≤ S4x2x2x44x128.size a) :
    (arg13.slice (Rect.unit (s := S4x2x2x44x128) o S1x2x2x44x128.size hb) (fun _ => rfl)).squeeze S2x2x44x128 squeezes_S1x2x2x44x128_S2x2x44x128
      = (arg13.slice (Rect.unit (s := S4x2x2x44x128) o' S1x2x2x44x128.size hb') (fun _ => rfl)).squeeze S2x2x44x128 squeezes_S1x2x2x44x128_S2x2x44x128 := by
  subst h; rfl

/-- The two spellings of group `k`'s part name one view. -/
theorem canon_a (arg13 : Memref sig .tc .vmem S4x2x2x44x128 .i32) (k : Fin k0_t2_loop.trips) :
    (arg13.slice (Rect.unit (s := S4x2x2x44x128) (k0_off11 k) S1x2x2x44x128.size (k0_off11_inb k)) (fun _ => rfl)).squeeze S2x2x44x128 squeezes_S1x2x2x44x128_S2x2x44x128 = slab arg13 k :=
  slab_eq arg13 _ _ ((k0_off11_eq k).trans (k0_off13_eq k).symm) _ _

/-- Group `k`'s part is some of the scale buffer. -/
theorem slab_set (arg13 : Memref sig .tc .vmem S4x2x2x44x128 .i32) (k : Fin k0_t2_loop.trips) : (slab arg13 k).view.set ⊆ arg13.view.set := by
  rw [Memref.set_view_squeeze]; exact View.set_slice_subset _ _

/-- The pieces group `k` writes into the output block when the scale buffer's part held `f13`. -/
abbrev piecesG (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (k : Fin k0_t2_loop.trips) (f13 : BufTy.Contents (Elt F) (slab arg13 k).view.ty) : List (View.Piece (Elt F) S64x1024 .bf16) :=
  (tripG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k (slab arg13 k) (canon_a arg13 k) rfl).1 f13

/-- What the output block may hold before trip `k`, from `G` at loop entry: each trip's pieces over what it found. -/
def Reach (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (G : BufTy.Contents (Elt F) arg10.view.ty) : ℕ → BufTy.Contents (Elt F) arg10.view.ty → Prop
  | 0, f => f = G
  | k + 1, f => ∃ (h : k < k0_t2_loop.trips) (f' : BufTy.Contents (Elt F) arg10.view.ty) (f13 : BufTy.Contents (Elt F) (slab arg13 ⟨k, h⟩).view.ty),
      Reach 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G k f' ∧ f = arg10.view.writes (Elt F) f' (piecesG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 ⟨k, h⟩ f13)

/-- Before trip `k`: what is read at its contents, the output block as reached, the scale buffer at anything. -/
abbrev invG (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (G : BufTy.Contents (Elt F) arg10.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11) ∗ (∃ f, (arg10.view.loc (c : Thread nD τ) ↦[arg10.view.set]{fullShare} f) ∗ ⌜Reach (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G k f⌝) ∗ ∃ f13, (arg13.view.loc (c : Thread nD τ) ↦[arg13.view.set]{fullShare} f13))

set_option warn.classDefReducibility false in
/-- The column-group loop by its invariant. -/
def loopInv_k0_t2 (𝒱 : Variants) (c : Dev nD) (bd : Option 𝒱.V) (E : Set ℕ) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (G : BufTy.Contents (Elt F) arg10.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v3 v4 v10 v11 where
  inv := invG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G
  step k acc := by
    iintro ⟨H2, H3, H4, H7, H11, ⟨%f10, H10, %hr⟩, %f13, H13⟩
    ihave H := ((pointsTo_split_subset (slab_set arg13 k)).1) $$ H13
    icases H with ⟨Hs, Hr⟩
    iapply (wp_wand_r Idealize.ShloMosaic.frame (wpE (defs₀ (F := F)) 𝒱 (c : Thread nD τ) bd) E)
    isplitl [H2 H3 H4 H7 H11 H10 Hs]
    · iapply ((tripG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k (slab arg13 k) (canon_a arg13 k) rfl).2 E f10 f13)
      isplitl [H2 H3 H4 H7 H11]
      · isplitl [H2]; · iexact H2
        isplitl [H3]; · iexact H3
        isplitl [H4]; · iexact H4
        isplitl [H7]; · iexact H7
        iexact H11
      isplitl [H10]; · iexact H10
      iexact Hs
    · iintro %_ ⟨⟨H2, H3, H4, H7, H11⟩, H10, %g13, Hs⟩
      isplitl [H2]; · iexact H2
      isplitl [H3]; · iexact H3
      isplitl [H4]; · iexact H4
      isplitl [H7]; · iexact H7
      isplitl [H11]; · iexact H11
      isplitl [H10]
      · iexists _; isplitl [H10]; · iexact H10
        ipureintro; exact ⟨k.isLt, f10, f13, hr, rfl⟩
      ihave H := (pointsTo_join Finset.disjoint_sdiff) $$ [Hs Hr]
      · isplitl [Hs]; · iexact Hs
        iexact Hr
      rw [Finset.union_sdiff_of_subset (slab_set arg13 k)]
      iexists _; iexact H

end Cert.Kernel.Body

end
-- ==== Proof.BitsRun.lean ====
/- The kernel body of `Kernel` as a separation-logic triple: the column-group loop by its invariant, then the body at the
   first grid point (where the scratch is filled) and at the others (where it is read as it stands). -/
module

public import proofs.«01_k».proof.Proof.Gen.Kernel.Frame
public import proofs.«01_k».proof.Proof.Gen.Kernel.Loops
public import proofs.«01_k».proof.Proof.BitsLoop
public import Idealize.ShloMosaic.Lib.VecWindow

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The low-rank activations the first grid point stores. -/
abbrev T12 (arg1 : Memref sig .tc .vmem S64x5632 .bf16) (arg6 : Memref sig .tc .vmem S5632x16 .bf16) (X1 : BufTy.Contents (Elt F) arg1.view.ty) (X6 : BufTy.Contents (Elt F) arg6.view.ty) : Vec F S64x16 .bf16 :=
  k0_pay1 (View.readAt (Elt F) arg1.view (Rect.unit (s := S64x5632) ![0, 0] S64x5632.size inb_S64x5632_S64x5632_0_0).toLoadRect X1) (View.readAt (Elt F) arg6.view (Rect.unit (s := S5632x16) ![0, 0] S5632x16.size inb_S5632x16_S5632x16_0_0).toLoadRect X6)

/-- The low-rank activations as a later grid point loads them. -/
abbrev rd12 (arg12 : Memref sig .tc .vmem S64x16 .bf16) (f : BufTy.Contents (Elt F) arg12.view.ty) : Vec F S64x16 .bf16 :=
  View.readAt (Elt F) arg12.view (Rect.unit (s := S64x16) ![0, 0] S64x16.size inb_S64x16_S64x16_0_0).toLoadRect f

/-- A nibble table as the body loads it. -/
abbrev rdTab (arg8 : Memref sig .tc .vmem S32x128 .i8) (f : BufTy.Contents (Elt F) arg8.view.ty) : Vec F S32x128 .i8 :=
  View.readAt (Elt F) arg8.view (Rect.unit (s := S32x128) ![0, 0] S32x128.size inb_S32x128_S32x128_0_0).toLoadRect f

/-- The offset word as the body loads it. -/
abbrev rd5 (arg5 : Memref sig .tc .smem S1 .f32) (f : BufTy.Contents (Elt F) arg5.view.ty) : Elt F .f32 :=
  View.readAt (Elt F) arg5.view (Rect.unit (s := S1) ![0] S1.size inb_S1_S1_0).toLoadRect f (Shape.Idx.first (by decide))

set_option maxHeartbeats 4000000 in
/-- The body at the first grid point: it fills the prepared activations and the low-rank activations, then goes through the column groups. -/
theorem bodyFirst (c : Dev nD) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hc : k0_cond1 i = 1#1) :
    iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) : sProp 𝕄)
    ⊢ wp frame (wpE (defs₀ (F := F)) Variants.none (c : Thread nD τ) none) Set.univ (cc0_nf4_linear (F := F) i arg1 harg1 arg2 harg2 arg3 harg3 arg4 harg4 arg5 harg5 arg6 harg6 arg7 harg7 arg8 harg8 arg9 harg9 arg10 harg10 arg11 harg11 arg12 harg12 arg13 harg13)
        (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (∃ f, (arg10.view.loc (c : Thread nD τ) ↦[arg10.view.set]{fullShare} f) ∗ ⌜Reach (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (T12 arg1 arg6 X1 X6) (rd5 arg5 X5) X2 X3 X4 X7 (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc X1 k0_t1_loop.trips)) f10 k0_t2_loop.trips f⌝) ∗ (arg11.view.loc (c : Thread nD τ) ↦[arg11.view.set]{fullShare} (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc X1 k0_t1_loop.trips))) ∗ (∃ f, (arg12.view.loc (c : Thread nD τ) ↦[arg12.view.set]{fullShare} f) ∗ ⌜rd12 arg12 f = T12 arg1 arg6 X1 X6⌝) ∗ ∃ f, (arg13.view.loc (c : Thread nD τ) ↦[arg13.view.set]{fullShare} f))) := by
  rw [cc0_nf4_linear_eq_skeleton]; unfold cc0_nf4_linear_skel
  iintro ⟨⟨H1, H2, H3, H4, H5, H6, H7, H8, H9⟩, H10, H11, H12, H13⟩
  sl_exec
  sl_for (invG (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (bodyFirst.sl.v10 arg1 arg6 arg12 X1 X6) (bodyFirst.sl.r arg5 X5) X2 X3 X4 X7 (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc X1 k0_t1_loop.trips)) f10) $$ [H2 H3 H4 H7 H10 H11 H13]
  case region => intro k a; exact (loopInv_k0_t2 (F := F) Variants.none c none Set.univ i arg1 harg1 arg2 harg2 arg3 harg3 arg4 harg4 arg5 harg5 arg6 harg6 arg7 harg7 arg8 harg8 arg9 harg9 arg10 harg10 arg11 harg11 arg12 harg12 arg13 harg13 _ _ _ _ X2 X3 X4 X7 _ f10).step k a
  · isplitl [H2]; · iexact H2
    isplitl [H3]; · iexact H3
    isplitl [H4]; · iexact H4
    isplitl [H7]; · iexact H7
    isplitl [H11]; · iexact H11
    isplitl [H10]
    · iexists f10; isplitl [H10]; · iexact H10
      ipureintro; exact rfl
    iexists f13; iexact H13
  have bodyFirst_v10 : ∀ (arg1 : Memref sig .tc .vmem S64x5632 .bf16) (arg6 : Memref sig .tc .vmem S5632x16 .bf16) (arg12 : Memref sig .tc .vmem S64x16 .bf16) (X1 : BufTy.Contents (Elt F) arg1.view.ty) (X6 : BufTy.Contents (Elt F) arg6.view.ty),
      bodyFirst.sl.v10 arg1 arg6 arg12 X1 X6 = T12 arg1 arg6 X1 X6 := fun arg1 arg6 arg12 X1 X6 => by
    unfold bodyFirst.sl.v10 bodyFirst.sl.H12_1; exact View.readCov_full arg12.view _ _ _ _
  iintro %a ⟨H2, H3, H4, H7, H11, ⟨%g10, H10, %hr⟩, %g13, H13⟩
  sl_step
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists g10; isplitl [H10]; · iexact H10
    ipureintro; rw [bodyFirst_v10] at hr; exact hr
  isplitl [H11]; · iexact H11
  isplitl [H12]
  · iexists _; isplitl [H12]; · iexact H12
    ipureintro; exact bodyFirst_v10 arg1 arg6 arg12 X1 X6
  iexists g13; iexact H13

set_option maxHeartbeats 4000000 in
/-- The body at a later grid point: the scratch is read as it stands. -/
theorem bodyRest (c : Dev nD) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x128 .i32) (harg13 : arg13.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hc : ¬ k0_cond1 i = 1#1) :
    iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) : sProp 𝕄)
    ⊢ wp frame (wpE (defs₀ (F := F)) Variants.none (c : Thread nD τ) none) Set.univ (cc0_nf4_linear (F := F) i arg1 harg1 arg2 harg2 arg3 harg3 arg4 harg4 arg5 harg5 arg6 harg6 arg7 harg7 arg8 harg8 arg9 harg9 arg10 harg10 arg11 harg11 arg12 harg12 arg13 harg13)
        (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (∃ f, (arg10.view.loc (c : Thread nD τ) ↦[arg10.view.set]{fullShare} f) ∗ ⌜Reach (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (rd12 arg12 f12) (rd5 arg5 X5) X2 X3 X4 X7 (f11) f10 k0_t2_loop.trips f⌝) ∗ (arg11.view.loc (c : Thread nD τ) ↦[arg11.view.set]{fullShare} (f11)) ∗ (arg12.view.loc (c : Thread nD τ) ↦[arg12.view.set]{fullShare} f12) ∗ ∃ f, (arg13.view.loc (c : Thread nD τ) ↦[arg13.view.set]{fullShare} f))) := by
  rw [cc0_nf4_linear_eq_skeleton]; unfold cc0_nf4_linear_skel
  iintro ⟨⟨H1, H2, H3, H4, H5, H6, H7, H8, H9⟩, H10, H11, H12, H13⟩
  sl_exec
  sl_for (invG (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (rd12 arg12 f12) (bodyRest.sl.r arg5 X5) X2 X3 X4 X7 (f11) f10) $$ [H2 H3 H4 H7 H10 H11 H13]
  case region => intro k a; exact (loopInv_k0_t2 (F := F) Variants.none c none Set.univ i arg1 harg1 arg2 harg2 arg3 harg3 arg4 harg4 arg5 harg5 arg6 harg6 arg7 harg7 arg8 harg8 arg9 harg9 arg10 harg10 arg11 harg11 arg12 harg12 arg13 harg13 _ _ _ _ X2 X3 X4 X7 _ f10).step k a
  · isplitl [H2]; · iexact H2
    isplitl [H3]; · iexact H3
    isplitl [H4]; · iexact H4
    isplitl [H7]; · iexact H7
    isplitl [H11]; · iexact H11
    isplitl [H10]
    · iexists f10; isplitl [H10]; · iexact H10
      ipureintro; exact rfl
    iexists f13; iexact H13
  iintro %a ⟨H2, H3, H4, H7, H11, ⟨%g10, H10, %hr⟩, %g13, H13⟩
  sl_step
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists g10; isplitl [H10]; · iexact H10
    ipureintro; exact hr
  isplitl [H11]; · iexact H11
  isplitl [H12]
  · iexact H12
  iexists g13; iexact H13

end Cert.Kernel.Body

end
-- ==== Proof.BitsFrame.lean ====
/- The frame run of `Kernel`: the pipeline's proof data with nothing said of the output buffer, the body obligation from
   the body's triples, and the launch. -/
module

public import proofs.«01_k».proof.Proof.Gen.Kernel.Frame
public import proofs.«01_k».proof.Proof.BitsRun
public import Idealize.ShloMosaic.Lib.Pipeline.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

namespace Fr

/-- The proof data: the arrays at their region-entry contents; after the body each input buffer as fetched; the class
    invariant (the scratch at something). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => iblk m c 3 t
    | ⟨4, _⟩ => iblk m c 4 t
    | ⟨5, _⟩ => iblk m c 5 t
    | ⟨6, _⟩ => (cfg0.win 6).fill (cfg0.grid.coords t) (fun _ => Classical.arbitrary _) (iblk m c 6 t)
    | ⟨7, _⟩ => iblk m c 7 t
    | ⟨8, _⟩ => iblk m c 8 t
    | ⟨9, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

/-- Window 1's buffer was just fetched: its block on the part inside the array, anything past it. -/
theorem before_1 (c : Dev nD) (t : Fin cfg0.N) (d) : (dats m 0 c).before 1 t d = (cfg0.win 1).fill (cfg0.grid.coords t) d (iblk m c 1 t) := by
  unfold Dat.before; rw [if_pos (fetch0_1 t)]; unfold Dat.fetched Dat.blockOf iblk; rw [A_eq]

/-- Window 2's buffer was just fetched: its block on the part inside the array, anything past it. -/
theorem before_2 (c : Dev nD) (t : Fin cfg0.N) (d) : (dats m 0 c).before 2 t d = (cfg0.win 2).fill (cfg0.grid.coords t) d (iblk m c 2 t) := by
  unfold Dat.before; rw [if_pos (fetch0_2 t)]; unfold Dat.fetched Dat.blockOf iblk; rw [A_eq]

/-- Window 6's buffer was just fetched: its block on the part inside the array, anything past it. -/
theorem before_6 (c : Dev nD) (t : Fin cfg0.N) (d) : (dats m 0 c).before 6 t d = (cfg0.win 6).fill (cfg0.grid.coords t) d (iblk m c 6 t) := by
  unfold Dat.before; rw [if_pos (fetch0_6 t)]; unfold Dat.fetched Dat.blockOf iblk; rw [A_eq]

/-- The output window is the one nothing is said of. -/
def fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => false
    | ⟨9, _⟩ => true

omit [BitOps F] in
/-- A whole scratch buffer, as the scoped rest and as the body's triple name it. -/
theorem scr_eq (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  simp only [Memref.view_whole, View.set_whole]

set_option maxHeartbeats 4000000 in
theorem body_obligation (c : Dev nD) : BodyObligationLoose (dats m 0 c) (defs₀ (F := F)) Variants.none () Set.univ fgt := fun t => by
  rw [bigSep_W0, bigSep_W0]
  simp only [fgt]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA; rw [scopedRest0_eq]
  rw [show (defs₀ (F := F)) .tc cfg0.body (cfg0.bodyArgs t (cfg0.slots t)) = bodyAt0 t from rfl]
  simp only [scr_eq]
  unfold owns
  iintro ⟨⟨⟨⟨%f11, H11⟩, ⟨%f12, H12⟩, %f13, H13⟩, Hp⟩, Ho, ⟨%d0, %X1, %hX1, H1⟩, ⟨%d1, %X2, %hX2, H2⟩, ⟨%d2, %X3, %hX3, H3⟩, ⟨%d3, %X4, %hX4, H4⟩, ⟨%d4, %X5, %hX5, H5⟩, ⟨%d5, %X6, %hX6, H6⟩, ⟨%d6, %X7, %hX7, H7⟩, ⟨%d7, %X8, %hX8, H8⟩, ⟨%d8, %X9, %hX9, H9⟩, %Y9, %f10, -, H10⟩
  rw [before0_0_of m (dats m 0 c) (A_eq m c 0) (fun _ => rfl)] at hX1
  rw [before_1] at hX2
  rw [before_2] at hX3
  rw [before0_3_of m (dats m 0 c) (A_eq m c 3) (fun _ => rfl)] at hX4
  rw [before0_4_of m (dats m 0 c) (A_eq m c 4) (fun _ => rfl)] at hX5
  rw [before0_5_of m (dats m 0 c) (A_eq m c 5) (fun _ => rfl)] at hX6
  rw [before_6] at hX7
  rw [before0_7_of m (dats m 0 c) (A_eq m c 7) (fun _ => rfl)] at hX8
  rw [before0_8_of m (dats m 0 c) (A_eq m c 8) (fun _ => rfl)] at hX9
  by_cases hc : k0_cond1 (grid0.coords t) = 1#1
  · iapply (wp_wand_r frame _ _)
    isplitr [Hp Ho]
    · iapply (bodyFirst (F := F) c (grid0.coords t) _ _ _ _ _ _ _ _ _ _ _ _ _ _ _ _ _ _ _ _ _ _ _ _ _ _ X1 X2 X3 X4 X5 X6 X7 X8 X9 f10 f11 f12 f13 hc)
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      iexact H13
    iintro %a ⟨⟨H1, H2, H3, H4, H5, H6, H7, H8, H9⟩, ⟨%g10, H10, -⟩, H11, ⟨%g12, H12, -⟩, %g13, H13⟩
    isplitl [H11 H12 H13 Hp]
    · isplitr [Hp]
      · isplitl [H11]; · iexists _; iexact H11
        isplitl [H12]; · iexists _; iexact H12
        iexists g13; iexact H13
      iexact Hp
    isplitl [Ho]; · iexact Ho
    isplitl [H1]
    · iexists X1; isplitr [H1]
      · ipureintro; exact hX1
      iexact H1
    isplitl [H2]
    · iexists d1; iexists X2; isplitr [H2]
      · ipureintro; exact hX2.trans (congrArg _ ((cfg0.win 1).cut_fill _ _ _).symm)
      iexact H2
    isplitl [H3]
    · iexists d2; iexists X3; isplitr [H3]
      · ipureintro; exact hX3.trans (congrArg _ ((cfg0.win 2).cut_fill _ _ _).symm)
      iexact H3
    isplitl [H4]
    · iexists X4; isplitr [H4]
      · ipureintro; exact hX4
      iexact H4
    isplitl [H5]
    · iexists X5; isplitr [H5]
      · ipureintro; exact hX5
      iexact H5
    isplitl [H6]
    · iexists X6; isplitr [H6]
      · ipureintro; exact hX6
      iexact H6
    isplitl [H7]
    · iexists d6; iexists X7; isplitr [H7]
      · ipureintro; exact hX7.trans (congrArg _ ((cfg0.win 6).cut_fill _ _ _).symm)
      iexact H7
    isplitl [H8]
    · iexists X8; isplitr [H8]
      · ipureintro; exact hX8
      iexact H8
    isplitl [H9]
    · iexists X9; isplitr [H9]
      · ipureintro; exact hX9
      iexact H9
    iexists _; iexists g10; isplitr [H10]
    · ipureintro; exact rfl
    iexact H10
  · iapply (wp_wand_r frame _ _)
    isplitr [Hp Ho]
    · iapply (bodyRest (F := F) c (grid0.coords t) _ _ _ _ _ _ _ _ _ _ _ _ _ _ _ _ _ _ _ _ _ _ _ _ _ _ X1 X2 X3 X4 X5 X6 X7 X8 X9 f10 f11 f12 f13 hc)
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      iexact H13
    iintro %a ⟨⟨H1, H2, H3, H4, H5, H6, H7, H8, H9⟩, ⟨%g10, H10, -⟩, H11, H12, %g13, H13⟩
    isplitl [H11 H12 H13 Hp]
    · isplitr [Hp]
      · isplitl [H11]; · iexists _; iexact H11
        isplitl [H12]; · iexists _; iexact H12
        iexists g13; iexact H13
      iexact Hp
    isplitl [Ho]; · iexact Ho
    isplitl [H1]
    · iexists X1; isplitr [H1]
      · ipureintro; exact hX1
      iexact H1
    isplitl [H2]
    · iexists d1; iexists X2; isplitr [H2]
      · ipureintro; exact hX2.trans (congrArg _ ((cfg0.win 1).cut_fill _ _ _).symm)
      iexact H2
    isplitl [H3]
    · iexists d2; iexists X3; isplitr [H3]
      · ipureintro; exact hX3.trans (congrArg _ ((cfg0.win 2).cut_fill _ _ _).symm)
      iexact H3
    isplitl [H4]
    · iexists X4; isplitr [H4]
      · ipureintro; exact hX4
      iexact H4
    isplitl [H5]
    · iexists X5; isplitr [H5]
      · ipureintro; exact hX5
      iexact H5
    isplitl [H6]
    · iexists X6; isplitr [H6]
      · ipureintro; exact hX6
      iexact H6
    isplitl [H7]
    · iexists d6; iexists X7; isplitr [H7]
      · ipureintro; exact hX7.trans (congrArg _ ((cfg0.win 6).cut_fill _ _ _).symm)
      iexact H7
    isplitl [H8]
    · iexists X8; isplitr [H8]
      · ipureintro; exact hX8
      iexact H8
    isplitl [H9]
    · iexists X9; isplitr [H9]
      · ipureintro; exact hX9
      iexact H9
    iexists _; iexists g10; isplitr [H10]
    · ipureintro; exact rfl
    iexact H10

/-- Every run ends, with the counters at zero, the inputs as they were. -/
theorem run : θ_run defs (onTc (τ := τ) (main (F := F))) (s₀ m ρ)
    (fun r => RDat.FramePost cfg0 (fun c => (dats m 0 c).toRForget fgt) (V m) r ∧ r.2.sem = fun _ => 0) :=
  Pipeline.θ_run_frame_forget cfgs (dats m) 0 launch0 defs₀ Variants.none fgt m ρ main (body_obligation m)
    (fun c => (dats m 0 c).share_full fun _ => rfl) (fun _ _ => rfl) (V m) (hmain m Variants.none) (A_eq m) (fun _ _ => rfl) (Q' := fun r => RDat.FramePost cfg0 (fun c => (dats m 0 c).toRForget fgt) (V m) r ∧ r.2.sem = fun _ => 0)

end Fr

/-- THE FRAME: every run ends, every argument array as launched, every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨
      ((h.1 c).2 main_arg0 (Pipeline.mem_restRefs_of main_arg0 (by decide) (by decide))).trans (V_main_arg0 m c),
      (((RDat.FramePost.arr_in h.1 c 1 rfl).trans (congrFun ((Fr.dats m 0 c).toRForget_A Fr.fgt) 1)).trans (Fr.A_eq m c 1)).trans (V_main_arg1 m c),
      (((RDat.FramePost.arr_in h.1 c 2 rfl).trans (congrFun ((Fr.dats m 0 c).toRForget_A Fr.fgt) 2)).trans (Fr.A_eq m c 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (((RDat.FramePost.arr_in h.1 c 5 rfl).trans (congrFun ((Fr.dats m 0 c).toRForget_A Fr.fgt) 5)).trans (Fr.A_eq m c 5)).trans (V_main_arg5 m c),
      (((RDat.FramePost.arr_in h.1 c 6 rfl).trans (congrFun ((Fr.dats m 0 c).toRForget_A Fr.fgt) 6)).trans (Fr.A_eq m c 6)).trans (V_main_arg6 m c)⟩, h.2⟩) (Fr.run m ρ)

end Cert.Kernel.Body

end
-- ==== Proof.IdealTrip.lean ====
/- The kernel's column-group loop in `KernelIdeal`: one trip at a symbolic group, run once. It reads the packed weights, the
   block scales, the low-rank factor and the prepared activations, and leaves its pieces in the output block. -/
module

public import proofs.«01_k».proof.Proof.Gen.KernelIdeal.Frame
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What a trip of the column-group loop holds: what it reads at its contents, the output block and the scale buffer at
    any. -/
abbrev TripG (c : Dev nD) (arg2 : Memref sig .tc .vmem S1024x2816 .i8) (arg3 : Memref sig .tc .vmem S1024x88 .i8) (arg4 : Memref sig .tc .vmem S1x4x128 .f32) (arg7 : Memref sig .tc .vmem S16x1024 .bf16) (arg11 : Memref sig .tc .vmem S64x5632 .bf16) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11))

set_option maxHeartbeats 4000000 in
/-- One trip of the column-group loop at a symbolic group `k`: the pieces it writes into the output block are found by
    the run, as a function of what the scale buffer held. -/
@[irreducible] def tripG (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (k : Fin k0_t2_loop.trips) (mv : Memref sig .tc .vmem S2x2x44x2x128 .bf16) (hcanon_a : (arg13.slice (Rect.unit (s := S4x2x2x44x2x128) (k0_off11 k) S1x2x2x44x2x128.size (k0_off11_inb k)) (fun _ => rfl)).squeeze S2x2x44x2x128 squeezes_S1x2x2x44x2x128_S2x2x44x2x128 = mv) (hcanon_b : (arg13.slice (Rect.unit (s := S4x2x2x44x2x128) (k0_off13 k) S1x2x2x44x2x128.size (k0_off13_inb k)) (fun _ => rfl)).squeeze S2x2x44x2x128 squeezes_S1x2x2x44x2x128_S2x2x44x2x128 = mv) :
    { L : BufTy.Contents (Elt F) mv.view.ty → List (View.Piece (Elt F) S64x1024 .bf16) // ∀ (E : Set ℕ) (f10 : BufTy.Contents (Elt F) arg10.view.ty) (f13 : BufTy.Contents (Elt F) mv.view.ty),
      iprop(TripG c arg2 arg3 arg4 arg7 arg11 X2 X3 X4 X7 X11 ∗ (arg10.view.loc (c : Thread nD τ) ↦[arg10.view.set]{fullShare} f10) ∗ (mv.view.loc (c : Thread nD τ) ↦[mv.view.set]{fullShare} f13))
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 v3 v4 v10 v11 k PUnit.unit)
          (fun _ => iprop(TripG c arg2 arg3 arg4 arg7 arg11 X2 X3 X4 X7 X11 ∗ (arg10.view.loc (c : Thread nD τ) ↦[arg10.view.set]{fullShare} (arg10.view.writes (Elt F) f10 (L f13))) ∗ ∃ f13', (mv.view.loc (c : Thread nD τ) ↦[mv.view.set]{fullShare} f13'))) } := by
  have hk : k.val < 4 := Nat.lt_of_lt_of_le k.isLt k0_t2_abs.2.1
  refine ⟨?_, fun E f10 f13 => ?run⟩
  case run =>
    unfold k0_t2_body
    iintro ⟨⟨H2, H3, H4, H7, H11⟩, H10, H13⟩
    sl_exec
    sl_step
    sl_close

end Cert.KernelIdeal.Body

end
-- ==== Proof.IdealLoop.lean ====
/- The kernel body of `KernelIdeal` as a separation-logic triple: the column-group loop by its invariant, then the body at the
   first grid point (where the scratch is filled) and at the others (where it is read as it stands). -/
module

public import proofs.«01_k».proof.Proof.Gen.KernelIdeal.Frame
public import proofs.«01_k».proof.Proof.Gen.KernelIdeal.Loops
public import proofs.«01_k».proof.Proof.IdealTrip

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Group `k`'s part of the scale buffer. -/
abbrev slab (arg13 : Memref sig .tc .vmem S4x2x2x44x2x128 .bf16) (k : Fin k0_t2_loop.trips) : Memref sig .tc .vmem S2x2x44x2x128 .bf16 :=
  (arg13.slice (Rect.unit (s := S4x2x2x44x2x128) (k0_off13 k) S1x2x2x44x2x128.size (k0_off13_inb k)) (fun _ => rfl)).squeeze S2x2x44x2x128 squeezes_S1x2x2x44x2x128_S2x2x44x2x128

theorem slab_eq (arg13 : Memref sig .tc .vmem S4x2x2x44x2x128 .bf16) (o o' : Fin S4x2x2x44x2x128.rank → ℕ) (h : o = o') (hb : ∀ a, o a + S1x2x2x44x2x128.size a ≤ S4x2x2x44x2x128.size a)
    (hb' : ∀ a, o' a + S1x2x2x44x2x128.size a ≤ S4x2x2x44x2x128.size a) :
    (arg13.slice (Rect.unit (s := S4x2x2x44x2x128) o S1x2x2x44x2x128.size hb) (fun _ => rfl)).squeeze S2x2x44x2x128 squeezes_S1x2x2x44x2x128_S2x2x44x2x128
      = (arg13.slice (Rect.unit (s := S4x2x2x44x2x128) o' S1x2x2x44x2x128.size hb') (fun _ => rfl)).squeeze S2x2x44x2x128 squeezes_S1x2x2x44x2x128_S2x2x44x2x128 := by
  subst h; rfl

/-- The two spellings of group `k`'s part name one view. -/
theorem canon_a (arg13 : Memref sig .tc .vmem S4x2x2x44x2x128 .bf16) (k : Fin k0_t2_loop.trips) :
    (arg13.slice (Rect.unit (s := S4x2x2x44x2x128) (k0_off11 k) S1x2x2x44x2x128.size (k0_off11_inb k)) (fun _ => rfl)).squeeze S2x2x44x2x128 squeezes_S1x2x2x44x2x128_S2x2x44x2x128 = slab arg13 k :=
  slab_eq arg13 _ _ ((k0_off11_eq k).trans (k0_off13_eq k).symm) _ _

/-- Group `k`'s part is some of the scale buffer. -/
theorem slab_set (arg13 : Memref sig .tc .vmem S4x2x2x44x2x128 .bf16) (k : Fin k0_t2_loop.trips) : (slab arg13 k).view.set ⊆ arg13.view.set := by
  rw [Memref.set_view_squeeze]; exact View.set_slice_subset _ _

/-- The pieces group `k` writes into the output block when the scale buffer's part held `f13`. -/
abbrev piecesG (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (k : Fin k0_t2_loop.trips) (f13 : BufTy.Contents (Elt F) (slab arg13 k).view.ty) : List (View.Piece (Elt F) S64x1024 .bf16) :=
  (tripG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k (slab arg13 k) (canon_a arg13 k) rfl).1 f13

/-- What the output block may hold before trip `k`, from `G` at loop entry: each trip's pieces over what it found. -/
def Reach (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (G : BufTy.Contents (Elt F) arg10.view.ty) : ℕ → BufTy.Contents (Elt F) arg10.view.ty → Prop
  | 0, f => f = G
  | k + 1, f => ∃ (h : k < k0_t2_loop.trips) (f' : BufTy.Contents (Elt F) arg10.view.ty) (f13 : BufTy.Contents (Elt F) (slab arg13 ⟨k, h⟩).view.ty),
      Reach 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G k f' ∧ f = arg10.view.writes (Elt F) f' (piecesG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 ⟨k, h⟩ f13)

/-- Before trip `k`: what is read at its contents, the output block as reached, the scale buffer at anything. -/
abbrev invG (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (G : BufTy.Contents (Elt F) arg10.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11) ∗ (∃ f, (arg10.view.loc (c : Thread nD τ) ↦[arg10.view.set]{fullShare} f) ∗ ⌜Reach (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G k f⌝) ∗ ∃ f13, (arg13.view.loc (c : Thread nD τ) ↦[arg13.view.set]{fullShare} f13))

set_option warn.classDefReducibility false in
/-- The column-group loop by its invariant. -/
def loopInv_k0_t2 (𝒱 : Variants) (c : Dev nD) (bd : Option 𝒱.V) (E : Set ℕ) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec F S32x128 .i8) (v4 : Vec F S32x128 .i8) (v10 : Vec F S64x16 .bf16) (v11 : Elt F .f32) (X2 : BufTy.Contents (Elt F) arg2.view.ty) (X3 : BufTy.Contents (Elt F) arg3.view.ty) (X4 : BufTy.Contents (Elt F) arg4.view.ty) (X7 : BufTy.Contents (Elt F) arg7.view.ty) (X11 : BufTy.Contents (Elt F) arg11.view.ty) (G : BufTy.Contents (Elt F) arg10.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v3 v4 v10 v11 where
  inv := invG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G
  step k acc := by
    iintro ⟨H2, H3, H4, H7, H11, ⟨%f10, H10, %hr⟩, %f13, H13⟩
    ihave H := ((pointsTo_split_subset (slab_set arg13 k)).1) $$ H13
    icases H with ⟨Hs, Hr⟩
    iapply (wp_wand_r Idealize.ShloMosaic.frame (wpE (defs₀ (F := F)) 𝒱 (c : Thread nD τ) bd) E)
    isplitl [H2 H3 H4 H7 H11 H10 Hs]
    · iapply ((tripG (F := F) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k (slab arg13 k) (canon_a arg13 k) rfl).2 E f10 f13)
      isplitl [H2 H3 H4 H7 H11]
      · isplitl [H2]; · iexact H2
        isplitl [H3]; · iexact H3
        isplitl [H4]; · iexact H4
        isplitl [H7]; · iexact H7
        iexact H11
      isplitl [H10]; · iexact H10
      iexact Hs
    · iintro %_ ⟨⟨H2, H3, H4, H7, H11⟩, H10, %g13, Hs⟩
      isplitl [H2]; · iexact H2
      isplitl [H3]; · iexact H3
      isplitl [H4]; · iexact H4
      isplitl [H7]; · iexact H7
      isplitl [H11]; · iexact H11
      isplitl [H10]
      · iexists _; isplitl [H10]; · iexact H10
        ipureintro; exact ⟨k.isLt, f10, f13, hr, rfl⟩
      ihave H := (pointsTo_join Finset.disjoint_sdiff) $$ [Hs Hr]
      · isplitl [Hs]; · iexact Hs
        iexact Hr
      rw [Finset.union_sdiff_of_subset (slab_set arg13 k)]
      iexists _; iexact H

end Cert.KernelIdeal.Body

end
-- ==== Proof.IdealRun.lean ====
/- The kernel body of `KernelIdeal` as a separation-logic triple: the column-group loop by its invariant, then the body at the
   first grid point (where the scratch is filled) and at the others (where it is read as it stands). -/
module

public import proofs.«01_k».proof.Proof.Gen.KernelIdeal.Frame
public import proofs.«01_k».proof.Proof.Gen.KernelIdeal.Loops
public import proofs.«01_k».proof.Proof.IdealLoop
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The low-rank activations the first grid point stores. -/
abbrev T12 (arg1 : Memref sig .tc .vmem S64x5632 .bf16) (arg6 : Memref sig .tc .vmem S5632x16 .bf16) (X1 : BufTy.Contents (Elt F) arg1.view.ty) (X6 : BufTy.Contents (Elt F) arg6.view.ty) : Vec F S64x16 .bf16 :=
  k0_pay1 (View.readAt (Elt F) arg1.view (Rect.unit (s := S64x5632) ![0, 0] S64x5632.size inb_S64x5632_S64x5632_0_0).toLoadRect X1) (View.readAt (Elt F) arg6.view (Rect.unit (s := S5632x16) ![0, 0] S5632x16.size inb_S5632x16_S5632x16_0_0).toLoadRect X6)

/-- The low-rank activations as a later grid point loads them. -/
abbrev rd12 (arg12 : Memref sig .tc .vmem S64x16 .bf16) (f : BufTy.Contents (Elt F) arg12.view.ty) : Vec F S64x16 .bf16 :=
  View.readAt (Elt F) arg12.view (Rect.unit (s := S64x16) ![0, 0] S64x16.size inb_S64x16_S64x16_0_0).toLoadRect f

/-- A nibble table as the body loads it. -/
abbrev rdTab (arg8 : Memref sig .tc .vmem S32x128 .i8) (f : BufTy.Contents (Elt F) arg8.view.ty) : Vec F S32x128 .i8 :=
  View.readAt (Elt F) arg8.view (Rect.unit (s := S32x128) ![0, 0] S32x128.size inb_S32x128_S32x128_0_0).toLoadRect f

/-- The offset word as the body loads it. -/
abbrev rd5 (arg5 : Memref sig .tc .smem S1 .f32) (f : BufTy.Contents (Elt F) arg5.view.ty) : Elt F .f32 :=
  View.readAt (Elt F) arg5.view (Rect.unit (s := S1) ![0] S1.size inb_S1_S1_0).toLoadRect f (Shape.Idx.first (by decide))

set_option maxHeartbeats 4000000 in
/-- The body at the first grid point: it fills the prepared activations and the low-rank activations, then goes through the column groups. -/
theorem bodyFirst (c : Dev nD) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hc : k0_cond1 i = 1#1) :
    iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) : sProp 𝕄)
    ⊢ wp frame (wpE (defs₀ (F := F)) Variants.none (c : Thread nD τ) none) Set.univ (cc0_nf4_linear (F := F) i arg1 harg1 arg2 harg2 arg3 harg3 arg4 harg4 arg5 harg5 arg6 harg6 arg7 harg7 arg8 harg8 arg9 harg9 arg10 harg10 arg11 harg11 arg12 harg12 arg13 harg13)
        (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (∃ f, (arg10.view.loc (c : Thread nD τ) ↦[arg10.view.set]{fullShare} f) ∗ ⌜Reach (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (T12 arg1 arg6 X1 X6) (rd5 arg5 X5) X2 X3 X4 X7 (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc X1 k0_t1_loop.trips)) f10 k0_t2_loop.trips f⌝) ∗ (arg11.view.loc (c : Thread nD τ) ↦[arg11.view.set]{fullShare} (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc X1 k0_t1_loop.trips))) ∗ (∃ f, (arg12.view.loc (c : Thread nD τ) ↦[arg12.view.set]{fullShare} f) ∗ ⌜rd12 arg12 f = T12 arg1 arg6 X1 X6⌝) ∗ ∃ f, (arg13.view.loc (c : Thread nD τ) ↦[arg13.view.set]{fullShare} f))) := by
  rw [cc0_nf4_linear_eq_skeleton]; unfold cc0_nf4_linear_skel
  iintro ⟨⟨H1, H2, H3, H4, H5, H6, H7, H8, H9⟩, H10, H11, H12, H13⟩
  sl_exec
  sl_for (invG (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (bodyFirst.sl.v10 arg1 arg6 arg12 X1 X6) (bodyFirst.sl.r arg5 X5) X2 X3 X4 X7 (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc X1 k0_t1_loop.trips)) f10) $$ [H2 H3 H4 H7 H10 H11 H13]
  case region => intro k a; exact (loopInv_k0_t2 (F := F) Variants.none c none Set.univ i arg1 harg1 arg2 harg2 arg3 harg3 arg4 harg4 arg5 harg5 arg6 harg6 arg7 harg7 arg8 harg8 arg9 harg9 arg10 harg10 arg11 harg11 arg12 harg12 arg13 harg13 _ _ _ _ X2 X3 X4 X7 _ f10).step k a
  · isplitl [H2]; · iexact H2
    isplitl [H3]; · iexact H3
    isplitl [H4]; · iexact H4
    isplitl [H7]; · iexact H7
    isplitl [H11]; · iexact H11
    isplitl [H10]
    · iexists f10; isplitl [H10]; · iexact H10
      ipureintro; exact rfl
    iexists f13; iexact H13
  have bodyFirst_v10 : ∀ (arg1 : Memref sig .tc .vmem S64x5632 .bf16) (arg6 : Memref sig .tc .vmem S5632x16 .bf16) (arg12 : Memref sig .tc .vmem S64x16 .bf16) (X1 : BufTy.Contents (Elt F) arg1.view.ty) (X6 : BufTy.Contents (Elt F) arg6.view.ty),
      bodyFirst.sl.v10 arg1 arg6 arg12 X1 X6 = T12 arg1 arg6 X1 X6 := fun arg1 arg6 arg12 X1 X6 => by
    unfold bodyFirst.sl.v10 bodyFirst.sl.H12_1; exact View.readCov_full arg12.view _ _ _ _
  iintro %a ⟨H2, H3, H4, H7, H11, ⟨%g10, H10, %hr⟩, %g13, H13⟩
  sl_step
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists g10; isplitl [H10]; · iexact H10
    ipureintro; rw [bodyFirst_v10] at hr; exact hr
  isplitl [H11]; · iexact H11
  isplitl [H12]
  · iexists _; isplitl [H12]; · iexact H12
    ipureintro; exact bodyFirst_v10 arg1 arg6 arg12 X1 X6
  iexists g13; iexact H13

set_option maxHeartbeats 4000000 in
/-- The body at a later grid point: the scratch is read as it stands. -/
theorem bodyRest (c : Dev nD) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hc : ¬ k0_cond1 i = 1#1) :
    iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) : sProp 𝕄)
    ⊢ wp frame (wpE (defs₀ (F := F)) Variants.none (c : Thread nD τ) none) Set.univ (cc0_nf4_linear (F := F) i arg1 harg1 arg2 harg2 arg3 harg3 arg4 harg4 arg5 harg5 arg6 harg6 arg7 harg7 arg8 harg8 arg9 harg9 arg10 harg10 arg11 harg11 arg12 harg12 arg13 harg13)
        (fun _ => iprop(((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) ∗ (∃ f, (arg10.view.loc (c : Thread nD τ) ↦[arg10.view.set]{fullShare} f) ∗ ⌜Reach (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (rd12 arg12 f12) (rd5 arg5 X5) X2 X3 X4 X7 (f11) f10 k0_t2_loop.trips f⌝) ∗ (arg11.view.loc (c : Thread nD τ) ↦[arg11.view.set]{fullShare} (f11)) ∗ (arg12.view.loc (c : Thread nD τ) ↦[arg12.view.set]{fullShare} f12) ∗ ∃ f, (arg13.view.loc (c : Thread nD τ) ↦[arg13.view.set]{fullShare} f))) := by
  rw [cc0_nf4_linear_eq_skeleton]; unfold cc0_nf4_linear_skel
  iintro ⟨⟨H1, H2, H3, H4, H5, H6, H7, H8, H9⟩, H10, H11, H12, H13⟩
  sl_exec
  sl_for (invG (F := F) Variants.none c none i arg1 harg1 arg2 harg2 arg3 harg3 arg4 harg4 arg5 harg5 arg6 harg6 arg7 harg7 arg8 harg8 arg9 harg9 arg10 harg10 arg11 harg11 arg12 harg12 arg13 harg13 (rdTab arg8 X8) (rdTab arg9 X9) (rd12 arg12 f12) (bodyRest.sl.r arg5 X5) X2 X3 X4 X7 (f11) f10) $$ [H2 H3 H4 H7 H10 H11 H13]
  case region => intro k a; exact (loopInv_k0_t2 (F := F) Variants.none c none Set.univ i arg1 harg1 arg2 harg2 arg3 harg3 arg4 harg4 arg5 harg5 arg6 harg6 arg7 harg7 arg8 harg8 arg9 harg9 arg10 harg10 arg11 harg11 arg12 harg12 arg13 harg13 _ _ _ _ X2 X3 X4 X7 _ f10).step k a
  · isplitl [H2]; · iexact H2
    isplitl [H3]; · iexact H3
    isplitl [H4]; · iexact H4
    isplitl [H7]; · iexact H7
    isplitl [H11]; · iexact H11
    isplitl [H10]
    · iexists f10; isplitl [H10]; · iexact H10
      ipureintro; exact rfl
    iexists f13; iexact H13
  iintro %a ⟨H2, H3, H4, H7, H11, ⟨%g10, H10, %hr⟩, %g13, H13⟩
  sl_step
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists g10; isplitl [H10]; · iexact H10
    ipureintro; exact hr
  isplitl [H11]; · iexact H11
  isplitl [H12]
  · iexact H12
  iexists g13; iexact H13

end Cert.KernelIdeal.Body

end
-- ==== Proof.IdealFrame.lean ====
/- The frame run of `KernelIdeal`: the pipeline's proof data with nothing said of the output buffer, the body obligation from
   the body's triples, and the launch. -/
module

public import proofs.«01_k».proof.Proof.Gen.KernelIdeal.Frame
public import proofs.«01_k».proof.Proof.IdealRun
public import Idealize.ShloMosaic.Lib.Pipeline.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Fr

/-- The proof data: the arrays at their region-entry contents; after the body each input buffer as fetched; the class
    invariant (the scratch at something). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => iblk m c 3 t
    | ⟨4, _⟩ => iblk m c 4 t
    | ⟨5, _⟩ => iblk m c 5 t
    | ⟨6, _⟩ => (cfg0.win 6).fill (cfg0.grid.coords t) (fun _ => Classical.arbitrary _) (iblk m c 6 t)
    | ⟨7, _⟩ => iblk m c 7 t
    | ⟨8, _⟩ => iblk m c 8 t
    | ⟨9, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

/-- Window 1's buffer was just fetched: its block on the part inside the array, anything past it. -/
theorem before_1 (c : Dev nD) (t : Fin cfg0.N) (d) : (dats m 0 c).before 1 t d = (cfg0.win 1).fill (cfg0.grid.coords t) d (iblk m c 1 t) := by
  unfold Dat.before; rw [if_pos (fetch0_1 t)]; unfold Dat.fetched Dat.blockOf iblk; rw [A_eq]

/-- Window 2's buffer was just fetched: its block on the part inside the array, anything past it. -/
theorem before_2 (c : Dev nD) (t : Fin cfg0.N) (d) : (dats m 0 c).before 2 t d = (cfg0.win 2).fill (cfg0.grid.coords t) d (iblk m c 2 t) := by
  unfold Dat.before; rw [if_pos (fetch0_2 t)]; unfold Dat.fetched Dat.blockOf iblk; rw [A_eq]

/-- Window 6's buffer was just fetched: its block on the part inside the array, anything past it. -/
theorem before_6 (c : Dev nD) (t : Fin cfg0.N) (d) : (dats m 0 c).before 6 t d = (cfg0.win 6).fill (cfg0.grid.coords t) d (iblk m c 6 t) := by
  unfold Dat.before; rw [if_pos (fetch0_6 t)]; unfold Dat.fetched Dat.blockOf iblk; rw [A_eq]

/-- The output window is the one nothing is said of. -/
def fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => false
    | ⟨9, _⟩ => true

omit [FloatOps F] in
/-- A whole scratch buffer, as the scoped rest and as the body's triple name it. -/
theorem scr_eq (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  simp only [Memref.view_whole, View.set_whole]

set_option maxHeartbeats 4000000 in
theorem body_obligation (c : Dev nD) : BodyObligationLoose (dats m 0 c) (defs₀ (F := F)) Variants.none () Set.univ fgt := fun t => by
  rw [bigSep_W0, bigSep_W0]
  simp only [fgt]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA; rw [scopedRest0_eq]
  rw [show (defs₀ (F := F)) .tc cfg0.body (cfg0.bodyArgs t (cfg0.slots t)) = bodyAt0 t from rfl]
  simp only [scr_eq]
  unfold owns
  iintro ⟨⟨⟨⟨%f11, H11⟩, ⟨%f12, H12⟩, %f13, H13⟩, Hp⟩, Ho, ⟨%d0, %X1, %hX1, H1⟩, ⟨%d1, %X2, %hX2, H2⟩, ⟨%d2, %X3, %hX3, H3⟩, ⟨%d3, %X4, %hX4, H4⟩, ⟨%d4, %X5, %hX5, H5⟩, ⟨%d5, %X6, %hX6, H6⟩, ⟨%d6, %X7, %hX7, H7⟩, ⟨%d7, %X8, %hX8, H8⟩, ⟨%d8, %X9, %hX9, H9⟩, %Y9, %f10, -, H10⟩
  rw [before0_0_of m (dats m 0 c) (A_eq m c 0) (fun _ => rfl)] at hX1
  rw [before_1] at hX2
  rw [before_2] at hX3
  rw [before0_3_of m (dats m 0 c) (A_eq m c 3) (fun _ => rfl)] at hX4
  rw [before0_4_of m (dats m 0 c) (A_eq m c 4) (fun _ => rfl)] at hX5
  rw [before0_5_of m (dats m 0 c) (A_eq m c 5) (fun _ => rfl)] at hX6
  rw [before_6] at hX7
  rw [before0_7_of m (dats m 0 c) (A_eq m c 7) (fun _ => rfl)] at hX8
  rw [before0_8_of m (dats m 0 c) (A_eq m c 8) (fun _ => rfl)] at hX9
  by_cases hc : k0_cond1 (grid0.coords t) = 1#1
  · iapply (wp_wand_r frame _ _)
    isplitr [Hp Ho]
    · iapply (bodyFirst (F := F) c (grid0.coords t) _ _ _ _ _ _ _ _ _ _ _ _ _ _ _ _ _ _ _ _ _ _ _ _ _ _ X1 X2 X3 X4 X5 X6 X7 X8 X9 f10 f11 f12 f13 hc)
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      iexact H13
    iintro %a ⟨⟨H1, H2, H3, H4, H5, H6, H7, H8, H9⟩, ⟨%g10, H10, -⟩, H11, ⟨%g12, H12, -⟩, %g13, H13⟩
    isplitl [H11 H12 H13 Hp]
    · isplitr [Hp]
      · isplitl [H11]; · iexists _; iexact H11
        isplitl [H12]; · iexists _; iexact H12
        iexists g13; iexact H13
      iexact Hp
    isplitl [Ho]; · iexact Ho
    isplitl [H1]
    · iexists X1; isplitr [H1]
      · ipureintro; exact hX1
      iexact H1
    isplitl [H2]
    · iexists d1; iexists X2; isplitr [H2]
      · ipureintro; exact hX2.trans (congrArg _ ((cfg0.win 1).cut_fill _ _ _).symm)
      iexact H2
    isplitl [H3]
    · iexists d2; iexists X3; isplitr [H3]
      · ipureintro; exact hX3.trans (congrArg _ ((cfg0.win 2).cut_fill _ _ _).symm)
      iexact H3
    isplitl [H4]
    · iexists X4; isplitr [H4]
      · ipureintro; exact hX4
      iexact H4
    isplitl [H5]
    · iexists X5; isplitr [H5]
      · ipureintro; exact hX5
      iexact H5
    isplitl [H6]
    · iexists X6; isplitr [H6]
      · ipureintro; exact hX6
      iexact H6
    isplitl [H7]
    · iexists d6; iexists X7; isplitr [H7]
      · ipureintro; exact hX7.trans (congrArg _ ((cfg0.win 6).cut_fill _ _ _).symm)
      iexact H7
    isplitl [H8]
    · iexists X8; isplitr [H8]
      · ipureintro; exact hX8
      iexact H8
    isplitl [H9]
    · iexists X9; isplitr [H9]
      · ipureintro; exact hX9
      iexact H9
    iexists _; iexists g10; isplitr [H10]
    · ipureintro; exact rfl
    iexact H10
  · iapply (wp_wand_r frame _ _)
    isplitr [Hp Ho]
    · iapply (bodyRest (F := F) c (grid0.coords t) _ _ _ _ _ _ _ _ _ _ _ _ _ _ _ _ _ _ _ _ _ _ _ _ _ _ X1 X2 X3 X4 X5 X6 X7 X8 X9 f10 f11 f12 f13 hc)
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      iexact H13
    iintro %a ⟨⟨H1, H2, H3, H4, H5, H6, H7, H8, H9⟩, ⟨%g10, H10, -⟩, H11, H12, %g13, H13⟩
    isplitl [H11 H12 H13 Hp]
    · isplitr [Hp]
      · isplitl [H11]; · iexists _; iexact H11
        isplitl [H12]; · iexists _; iexact H12
        iexists g13; iexact H13
      iexact Hp
    isplitl [Ho]; · iexact Ho
    isplitl [H1]
    · iexists X1; isplitr [H1]
      · ipureintro; exact hX1
      iexact H1
    isplitl [H2]
    · iexists d1; iexists X2; isplitr [H2]
      · ipureintro; exact hX2.trans (congrArg _ ((cfg0.win 1).cut_fill _ _ _).symm)
      iexact H2
    isplitl [H3]
    · iexists d2; iexists X3; isplitr [H3]
      · ipureintro; exact hX3.trans (congrArg _ ((cfg0.win 2).cut_fill _ _ _).symm)
      iexact H3
    isplitl [H4]
    · iexists X4; isplitr [H4]
      · ipureintro; exact hX4
      iexact H4
    isplitl [H5]
    · iexists X5; isplitr [H5]
      · ipureintro; exact hX5
      iexact H5
    isplitl [H6]
    · iexists X6; isplitr [H6]
      · ipureintro; exact hX6
      iexact H6
    isplitl [H7]
    · iexists d6; iexists X7; isplitr [H7]
      · ipureintro; exact hX7.trans (congrArg _ ((cfg0.win 6).cut_fill _ _ _).symm)
      iexact H7
    isplitl [H8]
    · iexists X8; isplitr [H8]
      · ipureintro; exact hX8
      iexact H8
    isplitl [H9]
    · iexists X9; isplitr [H9]
      · ipureintro; exact hX9
      iexact H9
    iexists _; iexists g10; isplitr [H10]
    · ipureintro; exact rfl
    iexact H10

/-- Every run ends, with the counters at zero, the inputs as they were. -/
theorem run : θ_run defs (onTc (τ := τ) (main (F := F))) (s₀ m ρ)
    (fun r => RDat.FramePost cfg0 (fun c => (dats m 0 c).toRForget fgt) (V m) r ∧ r.2.sem = fun _ => 0) :=
  Pipeline.θ_run_frame_forget cfgs (dats m) 0 launch0 defs₀ Variants.none fgt m ρ main (body_obligation m)
    (fun c => (dats m 0 c).share_full fun _ => rfl) (fun _ _ => rfl) (V m) (hmain m Variants.none) (A_eq m) (fun _ _ => rfl) (Q' := fun r => RDat.FramePost cfg0 (fun c => (dats m 0 c).toRForget fgt) (V m) r ∧ r.2.sem = fun _ => 0)

end Fr

/-- THE FRAME: every run ends, every argument array as launched, every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨
      ((h.1 c).2 main_arg0 (Pipeline.mem_restRefs_of main_arg0 (by decide) (by decide))).trans (V_main_arg0 m c),
      (((RDat.FramePost.arr_in h.1 c 1 rfl).trans (congrFun ((Fr.dats m 0 c).toRForget_A Fr.fgt) 1)).trans (Fr.A_eq m c 1)).trans (V_main_arg1 m c),
      (((RDat.FramePost.arr_in h.1 c 2 rfl).trans (congrFun ((Fr.dats m 0 c).toRForget_A Fr.fgt) 2)).trans (Fr.A_eq m c 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (((RDat.FramePost.arr_in h.1 c 5 rfl).trans (congrFun ((Fr.dats m 0 c).toRForget_A Fr.fgt) 5)).trans (Fr.A_eq m c 5)).trans (V_main_arg5 m c),
      (((RDat.FramePost.arr_in h.1 c 6 rfl).trans (congrFun ((Fr.dats m 0 c).toRForget_A Fr.fgt) 6)).trans (Fr.A_eq m c 6)).trans (V_main_arg6 m c)⟩, h.2⟩) (Fr.run m ρ)

end Cert.KernelIdeal.Body

end
-- ==== Proof.Strip.lean ====
/- One strip of a chunk of packed weights: sixteen input columns by 128 output columns. Each byte of a word is a row of the
   value table, the two table bytes joined are the bfloat16 value, and the value is multiplied by its block's scale. -/
module

public import proofs.«01_k».proof.Proof.Gen.KernelIdeal.Skeleton
public import Idealize.ShloMosaic.Lib.Pointwise
public import Idealize.ShloMosaic.Lib.BitcastPair
public import Idealize.ShloMosaic.Lib.BitcastFour

@[expose] public section

set_option maxRecDepth 16384

noncomputable section

namespace Cert.KernelIdeal.Val

open Cert.KernelIdeal Cert.KernelIdeal.Gen
open Idealize.ShloMosaic Idealize.ShloMosaic.TcCoe

/-- A bit of a rank-two array read at another width. -/
theorem bc2 {v w R r n : ℕ} (x : (⟨2, ![R, n]⟩ : Shape).Idx → BitVec v) (h : (⟨2, ![R, n]⟩ : Shape).Bitcasts v ⟨2, ![r, n]⟩ w)
    (a : Fin r) (l : Fin n) (q : ℕ) (hq : q < w) (hv : 0 < v) (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A bit of a word of the transposed pack: word row `s` of lane `n` holds input columns `2s` and `2s + 1` of output
    columns `2n` and `2n + 1`. -/
theorem pay30_bit (v412 : Vec Ideal S256x128 .i8) (s : Fin 64) (n : Fin 128) (q : ℕ) (hq : q < 32)
    (a : Fin 256) (b : Fin 128) (ha : a.val = 2 * n.val + (q / 8) % 2) (hb : b.val = 2 * s.val + q / 16) :
    (k0_pay30 (F := Ideal) v412 (ix2 s n) : BitVec 32).getLsbD q = (v412 (ix2 a b) : BitVec 8).getLsbD (q % 8) := by
  have hs := s.isLt
  have hn := n.isLt
  unfold k0_pay30
  dsimp only
  rw [bc2 _ _ s n q hq (by decide) b (by omega)]
  show ((transpose S128x128 [1, 0] _ transposes_S128x128_p1_0_S128x128 (ix2 b n)) : BitVec 16).getLsbD _ = _
  have e : ∀ (y : IVec S128x128 16), transpose S128x128 [1, 0] y transposes_S128x128_p1_0_S128x128 (ix2 b n) = y (ix2 n b) := by
    intro y
    pointwise
  rw [e]
  rw [bc2 _ _ n b _ (by omega) (by decide) (⟨n.val / 2, by omega⟩ : Fin 64) (by show n.val / 2 = _; omega)]
  rw [bc2 _ _ (⟨n.val / 2, by omega⟩ : Fin 64) b _ (by omega) (by decide) a (by
    show a.val = (n.val / 2 * 32 + (n.val * 16 + (s.val * 32 + q) % 16) % 32) / 8
    have h1 : (s.val * 32 + q) % 16 = q % 16 := by omega
    have h2 : (n.val * 16 + q % 16) % 32 = 16 * (n.val % 2) + q % 16 := by omega
    have h3 : (q / 8) % 2 = (q % 16) / 8 := by omega
    rw [h1, h2, ha, h3]
    omega)]
  congr 1
  show _ = q % 8
  omega

/-- The table rows of the bytes of a word strip, at a shift. -/
def nibIdx (u : IVec S8x128 32) (sh : BitVec 32) : IVec S32x128 32 :=
  extsi 32 (bitcast S32x128 8 (andi (shrsi u (broadcast S8x128 sh)) (broadcast S8x128 252645135#32)) bitcasts_S8x128_w32_S32x128_w8) natLt_8_32

/-- Rows of a table, chosen per lane. -/
def gat (v : Vec Ideal S32x128 .i8) (i : IVec S32x128 32) : IVec S32x128 8 :=
  dynamicGather 0 v (shapeCast S32x128 (shapeCast S32x128x1 i shapeCasts_S32x128_S32x128x1) shapeCasts_S32x128x1_S32x128)

/-- The values of even bytes: low table bytes joined with high ones. -/
def evenW (g3 g4 : IVec S32x128 8) : IVec S8x128 32 :=
  ori (andi (bitcast S8x128 32 g3 bitcasts_S32x128_w8_S8x128_w32) (broadcast S8x128 16711935#32))
    (shli (andi (bitcast S8x128 32 g4 bitcasts_S32x128_w8_S8x128_w32) (broadcast S8x128 16711935#32)) (broadcast S8x128 8#32))

/-- The values of odd bytes. -/
def oddW (g3 g4 : IVec S32x128 8) : IVec S8x128 32 :=
  bitcast S8x128 32 (select (k0_pay7) (bitcast S32x128 8 (shrsi (bitcast S8x128 32 g3 bitcasts_S32x128_w8_S8x128_w32)
    (broadcast S8x128 8#32)) bitcasts_S8x128_w32_S32x128_w8) g4) bitcasts_S32x128_w8_S8x128_w32

/-- A scale row repeated over the rows of a strip. -/
def sclV (raw : Vec Ideal S1x1x1x2x128 .bf16) : FVec Ideal S16x128 .bf16 :=
  k0_pay37 (F := Ideal) (fun _ => (1 : EReal)) raw

/-- A strip: values times scales. -/
def piece (w : IVec S8x128 32) (raw : Vec Ideal S1x1x1x2x128 .bf16) : FVec Ideal S16x128 .bf16 :=
  k0_pay37 (F := Ideal) (bitcastToFloat .bf16 (bitcast S16x128 16 w bitcasts_S8x128_w32_S16x128_w16)) raw

/-- The table row a nibble of a packed byte names. -/
def nib (hi : Bool) (b : BitVec 8) : BitVec 8 := if hi then b >>> 4 else b &&& 15#8

theorem nib_lt (hi : Bool) (b : BitVec 8) : (nib hi b).toNat < 16 := by
  revert hi b; decide

theorem mask_bit (U : BitVec 32) (hi : Bool) (m : ℕ) (hm : m < 4) (q : ℕ) (hq : q < 8) :
    (IntOp.andi (IntOp.shrsi .vector U (if hi then 4#32 else 0#32)) 252645135#32).getLsbD (8 * m + q)
      = (decide (q < 4) && U.getLsbD (8 * m + (q + if hi then 4 else 0))) := by
  have hk : (252645135#32 : BitVec 32).getLsbD (8 * m + q) = decide (q < 4) := by
    interval_cases m <;> interval_cases q <;> rfl
  unfold IntOp.andi IntOp.shrsi
  rw [BitVec.getLsbD_and, hk]
  cases hi
  · have : (0#32 : BitVec 32).toNat < 32 := by decide
    simp only [Bool.false_eq_true, if_false, if_pos this]
    rw [BitVec.getLsbD_sshiftRight']
    by_cases h : q < 4
    · simp [h]; rw [if_pos (by omega)]; simp; omega
    · simp [h]
  · have : (4#32 : BitVec 32).toNat < 32 := by decide
    simp only [if_true, if_pos this]
    rw [BitVec.getLsbD_sshiftRight']
    by_cases h : q < 4
    · have e : 4 + (8 * m + q) = 8 * m + (q + 4) := by omega
      have e2 : 8 * m + (q + 4) < 32 := by omega
      simp [h, e, e2]; omega
    · simp [h]

theorem nib_bit (hi : Bool) (b : BitVec 8) (q : ℕ) (hq : q < 8) :
    (nib hi b).getLsbD q = (decide (q < 4) && b.getLsbD (q + if hi then 4 else 0)) := by
  unfold nib
  cases hi
  · have hk : (15#8 : BitVec 8).getLsbD q = decide (q < 4) := by interval_cases q <;> rfl
    simp only [Bool.false_eq_true, if_false, BitVec.getLsbD_and, hk, Nat.add_zero]
    exact Bool.and_comm _ _
  · simp only [if_true, BitVec.getLsbD_ushiftRight, Nat.add_comm 4 q]
    by_cases h : q < 4
    · simp [h]
    · simp [h]
      exact BitVec.getLsbD_of_ge b _ (by omega)

theorem sext_small (x : BitVec 8) (h : x.toNat < 16) : (x.signExtend 32).toNat = x.toNat := by
  have hm : x.msb = false := by
    rw [BitVec.msb_eq_false_iff_two_mul_lt]; omega
  rw [BitVec.signExtend_eq_setWidth_of_msb_false hm, BitVec.toNat_setWidth]
  omega

theorem nibIdx_apply (u : IVec S8x128 32) (hi : Bool) (R : Fin 32) (n : Fin 128) (b : BitVec 8) (s : Fin 8) (hs : s.val = R.val / 4)
    (hb : ∀ q < 8, (u (ix2 s n) : BitVec 32).getLsbD (8 * (R.val % 4) + q) = b.getLsbD q) :
    (nibIdx u (if hi then 4#32 else 0#32) (ix2 R n) : BitVec 32).toNat = (nib hi b).toNat := by
  have hR := R.isLt
  have e : (bitcast S32x128 8 (andi (shrsi u (broadcast S8x128 (if hi then 4#32 else 0#32))) (broadcast S8x128 252645135#32)) bitcasts_S8x128_w32_S32x128_w8 (ix2 R n) : BitVec 8) = nib hi b := by
    apply BitVec.eq_of_getLsbD_eq
    intro q hq
    rw [bc2 _ _ R n q hq (by decide) s (by omega)]
    have hm : (R.val * 8 + q) % 32 = 8 * (R.val % 4) + q := by omega
    rw [hm]
    refine (mask_bit (u (ix2 s n)) hi (R.val % 4) (by omega) q hq).trans ?_
    rw [nib_bit hi b q hq]
    by_cases h : q < 4
    · rw [hb _ (by split <;> omega)]
    · simp [h]
  show ((bitcast S32x128 8 (andi (shrsi u (broadcast S8x128 (if hi then 4#32 else 0#32))) (broadcast S8x128 252645135#32)) bitcasts_S8x128_w32_S32x128_w8 (ix2 R n) : BitVec 8).signExtend 32).toNat = _
  rw [e]
  exact sext_small _ (nib_lt hi b)

theorem even_bits (A B : BitVec 32) (h : ℕ) (hh : h < 2) (i : ℕ) (hi : i < 16) :
    (IntOp.ori (IntOp.andi A 16711935#32) (IntOp.shli .vector (IntOp.andi B 16711935#32) 8#32)).getLsbD (16 * h + i)
      = if i < 8 then A.getLsbD (16 * h + i) else B.getLsbD (16 * h + i - 8) := by
  unfold IntOp.ori IntOp.andi IntOp.shli
  have h8 : (8#32 : BitVec 32).toNat < 32 := by decide
  rw [if_pos h8]
  have hm : ∀ p, p < 32 → (16711935#32 : BitVec 32).getLsbD p = decide (p % 16 < 8) := by
    intro p hp; interval_cases p <;> rfl
  rw [BitVec.getLsbD_or, BitVec.getLsbD_and, BitVec.shiftLeft_eq', BitVec.getLsbD_shiftLeft, BitVec.getLsbD_and, hm _ (by omega), hm _ (by show 16 * h + i - 8 < 32; omega)]
  show _ = _
  have e8 : (8#32 : BitVec 32).toNat = 8 := rfl
  rw [e8]
  by_cases hc : i < 8
  · have e1 : (16 * h + i) % 16 < 8 := by omega
    rw [if_pos hc]
    by_cases h0 : h = 0
    · subst h0; simp [hc]; intro; omega
    · have : h = 1 := by omega
      subst this
      have e2 : ¬ (16 * 1 + i - 8) % 16 < 8 := by omega
      simp only [e1, e2, decide_true, decide_false, Bool.and_true, Bool.and_false, Bool.or_false]
  · have e1 : ¬ (16 * h + i) % 16 < 8 := by omega
    have e2 : (16 * h + i - 8) % 16 < 8 := by omega
    have e3 : ¬ (16 * h + i) < 8 := by omega
    have e4 : (16 * h + i) < 32 := by omega
    rw [if_neg hc]
    simp only [e1, e2, e3, e4, decide_true, decide_false, Bool.and_true, Bool.and_false, Bool.false_or, Bool.not_false, Bool.true_and]

theorem word_bit (g : IVec S32x128 8) (s : Fin 8) (n : Fin 128) (q : ℕ) (hq : q < 32) (R : Fin 32) (hR : R.val = 4 * s.val + q / 8) :
    (bitcast S8x128 32 g bitcasts_S32x128_w8_S8x128_w32 (ix2 s n) : BitVec 32).getLsbD q = (g (ix2 R n) : BitVec 8).getLsbD (q % 8) := by
  rw [bc2 _ _ s n q hq (by decide) R (by omega)]
  congr 1
  omega

theorem evenW_apply (g3 g4 : IVec S32x128 8) (r : Fin 16) (n : Fin 128) (R : Fin 32) (hR : R.val = 2 * r.val) :
    (bitcast S16x128 16 (evenW g3 g4) bitcasts_S8x128_w32_S16x128_w16 (ix2 r n) : BitVec 16) = g4 (ix2 R n) ++ g3 (ix2 R n) := by
  have hr := r.isLt
  apply BitVec.eq_of_getLsbD_eq
  intro q hq
  rw [bc2 _ _ r n q hq (by decide) (⟨r.val / 2, by omega⟩ : Fin 8) (by show r.val / 2 = _; omega)]
  have hm : (r.val * 16 + q) % 32 = 16 * (r.val % 2) + q := by omega
  rw [hm]
  refine (even_bits (bitcast S8x128 32 g3 bitcasts_S32x128_w8_S8x128_w32 (ix2 ⟨r.val / 2, by omega⟩ n)) (bitcast S8x128 32 g4 bitcasts_S32x128_w8_S8x128_w32 (ix2 ⟨r.val / 2, by omega⟩ n)) (r.val % 2) (by omega) q hq).trans ?_
  rw [BitVec.getLsbD_append]
  by_cases hc : q < 8
  · rw [if_pos hc, if_pos hc, word_bit g3 _ n _ (by omega) R (by show R.val = 4 * (r.val / 2) + _; omega)]
    congr 1; omega
  · rw [if_neg hc, if_neg hc, word_bit g4 _ n _ (by omega) R (by show R.val = 4 * (r.val / 2) + _; omega)]
    congr 1; omega

theorem pay7_apply (R : Fin 32) (n : Fin 128) : (k0_pay7 (ix2 R n) : BitVec 1) = if R.val % 2 = 0 then 1#1 else 0#1 := by
  unfold k0_pay7
  pointwise
  revert R; decide

theorem sel7 (a c : IVec S32x128 8) (R : Fin 32) (n : Fin 128) :
    (select k0_pay7 a c (ix2 R n) : BitVec 8) = if R.val % 2 = 0 then a (ix2 R n) else c (ix2 R n) := by
  show Scalar.select (k0_pay7 (ix2 R n)) (a (ix2 R n)) (c (ix2 R n)) = _
  rw [pay7_apply]
  split <;> rfl

theorem shr8_bit (A : BitVec 32) (p : ℕ) (hp : p < 24) : (IntOp.shrsi .vector A 8#32).getLsbD p = A.getLsbD (p + 8) := by
  unfold IntOp.shrsi
  have h8 : (8#32 : BitVec 32).toNat < 32 := by decide
  rw [if_pos h8, BitVec.getLsbD_sshiftRight']
  have e8 : (8#32 : BitVec 32).toNat = 8 := rfl
  rw [e8]
  have e1 : 8 + p < 32 := by omega
  have e2 : ¬ 32 ≤ p := by omega
  simp [e1, e2, Nat.add_comm]
  omega

theorem oddW_apply (g3 g4 : IVec S32x128 8) (r : Fin 16) (n : Fin 128) (R : Fin 32) (hR : R.val = 2 * r.val + 1) :
    (bitcast S16x128 16 (oddW g3 g4) bitcasts_S8x128_w32_S16x128_w16 (ix2 r n) : BitVec 16) = g4 (ix2 R n) ++ g3 (ix2 R n) := by
  have hr := r.isLt
  apply BitVec.eq_of_getLsbD_eq
  intro q hq
  rw [bc2 _ _ r n q hq (by decide) (⟨r.val / 2, by omega⟩ : Fin 8) (by show r.val / 2 = _; omega)]
  have hm : (r.val * 16 + q) % 32 = 16 * (r.val % 2) + q := by omega
  rw [hm]
  unfold oddW
  rw [word_bit _ _ n _ (by omega) (⟨2 * r.val + q / 8, by omega⟩ : Fin 32) (by show 2 * r.val + q / 8 = 4 * (r.val / 2) + _; omega)]
  rw [sel7, BitVec.getLsbD_append]
  by_cases hc : q < 8
  · have e : (2 * r.val + q / 8) % 2 = 0 := by omega
    rw [if_pos hc, if_pos e]
    rw [bc2 _ _ _ n _ (by omega) (by decide) (⟨r.val / 2, by omega⟩ : Fin 8) (by show r.val / 2 = ((2 * r.val + q / 8) * 8 + (16 * (r.val % 2) + q) % 8) / 32; omega)]
    show (shrsi (bitcast S8x128 32 g3 bitcasts_S32x128_w8_S8x128_w32) (broadcast S8x128 8#32) (ix2 ⟨r.val / 2, by omega⟩ n) : BitVec 32).getLsbD (((2 * r.val + q / 8) * 8 + (16 * (r.val % 2) + q) % 8) % 32) = _
    have hp : ((2 * r.val + q / 8) * 8 + (16 * (r.val % 2) + q) % 8) % 32 = 16 * (r.val % 2) + q := by omega
    rw [hp]
    rw [show (shrsi (bitcast S8x128 32 g3 bitcasts_S32x128_w8_S8x128_w32) (broadcast S8x128 8#32) (ix2 ⟨r.val / 2, by omega⟩ n) : BitVec 32)
      = IntOp.shrsi .vector (bitcast S8x128 32 g3 bitcasts_S32x128_w8_S8x128_w32 (ix2 ⟨r.val / 2, by omega⟩ n)) 8#32 from rfl]
    rw [shr8_bit _ _ (by omega), word_bit g3 _ n _ (by omega) R (by show R.val = 4 * (r.val / 2) + _; omega)]
    congr 1
    omega
  · have e : ¬ (2 * r.val + q / 8) % 2 = 0 := by omega
    rw [if_neg hc, if_neg e]
    have eR : (⟨2 * r.val + q / 8, by omega⟩ : Fin 32) = R := Fin.ext (by show 2 * r.val + q / 8 = _; omega)
    rw [eR]
    congr 1; omega

theorem piece_apply (w : IVec S8x128 32) (raw : Vec Ideal S1x1x1x2x128 .bf16) (r : Fin 16) (n : Fin 128) (e : Fin 2) (he : e.val = r.val % 2) :
    piece w raw (ix2 r n) = Ideal.ofBits .bf16 (bitcast S16x128 16 w bitcasts_S8x128_w32_S16x128_w16 (ix2 r n)) * raw (ix5 0 0 0 e n) := by
  unfold piece k0_pay37
  pointwise
  simp only [dite_eq_ite, ite_self]
  congr 1
  split
  · congr 2; exact Fin.ext (by show 0 = e.val; omega)
  · congr 2; exact Fin.ext (by show 1 = e.val; omega)

theorem gat_apply (v : Vec Ideal S32x128 .i8) (i : IVec S32x128 32) (R : Fin 32) (n : Fin 128) (p : Fin 32) (hp : p.val = (i (ix2 R n) : BitVec 32).toNat % 32) :
    gat v i (ix2 R n) = v (ix2 p n) := by
  have e : gat v i (ix2 R n) = v (fun b => if b = 0 then ⟨(i (ix2 R n) : BitVec 32).toNat % S32x128.size b, Nat.mod_lt _ (Fin.pos (ix2 R n b))⟩ else ix2 R n b) := by
    unfold gat dynamicGather
    pointwise
  rw [e]
  congr 1
  funext b
  match b with
  | ⟨0, _⟩ => exact Fin.ext hp.symm
  | ⟨1, _⟩ => rfl

/-- The row of the value table a nibble names, as an index. -/
def tabRow (hi : Bool) (b : BitVec 8) : Fin 32 := ⟨(nib hi b).toNat, Nat.lt_trans (nib_lt hi b) (by decide)⟩

/-- The bfloat16 value of a nibble by the two byte tables, in a lane. -/
def tabVal (v3 v4 : Vec Ideal S32x128 .i8) (hi : Bool) (b : BitVec 8) (n : Fin 128) : EReal :=
  Ideal.ofBits .bf16 ((v4 (ix2 (tabRow hi b) n) : BitVec 8) ++ (v3 (ix2 (tabRow hi b) n) : BitVec 8))

/-- A strip of even output columns. -/
def evenP (v3 v4 : Vec Ideal S32x128 .i8) (u : IVec S8x128 32) (sh : BitVec 32) (raw : Vec Ideal S1x1x1x2x128 .bf16) : FVec Ideal S16x128 .bf16 :=
  piece (evenW (gat v3 (nibIdx u sh)) (gat v4 (nibIdx u sh))) raw

/-- A strip of odd output columns. -/
def oddP (v3 v4 : Vec Ideal S32x128 .i8) (u : IVec S8x128 32) (sh : BitVec 32) (raw : Vec Ideal S1x1x1x2x128 .bf16) : FVec Ideal S16x128 .bf16 :=
  piece (oddW (gat v3 (nibIdx u sh)) (gat v4 (nibIdx u sh))) raw

theorem gat_nib (v : Vec Ideal S32x128 .i8) (v412 : Vec Ideal S256x128 .i8) (u : IVec S8x128 32) (i : Fin 8) (hi : Bool)
    (hu : ∀ (s : Fin 8) (n : Fin 128), (u (ix2 s n) : BitVec 32) = k0_pay30 (F := Ideal) v412 (ix2 ⟨8 * i.val + s.val, by omega⟩ n))
    (p : Fin 2) (r : Fin 16) (n : Fin 128) :
    gat v (nibIdx u (if hi then 4#32 else 0#32)) (ix2 ⟨2 * r.val + p.val, by omega⟩ n)
      = v (ix2 (tabRow hi (v412 (ix2 ⟨2 * n.val + p.val, by omega⟩ ⟨16 * i.val + r.val, by omega⟩))) n) := by
  refine gat_apply _ _ _ _ _ ?_
  rw [nibIdx_apply u hi _ n (v412 (ix2 ⟨2 * n.val + p.val, by omega⟩ ⟨16 * i.val + r.val, by omega⟩)) ⟨r.val / 2, by omega⟩
    (by show r.val / 2 = (2 * r.val + p.val) / 4; omega)]
  · exact (Nat.mod_eq_of_lt (Nat.lt_trans (nib_lt _ _) (by decide))).symm
  · intro q hq
    rw [hu]
    show (k0_pay30 (F := Ideal) v412 (ix2 _ n) : BitVec 32).getLsbD (8 * ((2 * r.val + p.val) % 4) + q) = _
    rw [pay30_bit v412 _ n _ (by omega) ⟨2 * n.val + p.val, by omega⟩ ⟨16 * i.val + r.val, by omega⟩
      (by show 2 * n.val + p.val = 2 * n.val + _; omega) (by show 16 * i.val + r.val = 2 * (8 * i.val + r.val / 2) + _; omega)]
    congr 1
    omega

theorem evenP_apply (v3 v4 : Vec Ideal S32x128 .i8) (v412 : Vec Ideal S256x128 .i8) (u : IVec S8x128 32) (i : Fin 8) (hi : Bool)
    (hu : ∀ (s : Fin 8) (n : Fin 128), (u (ix2 s n) : BitVec 32) = k0_pay30 (F := Ideal) v412 (ix2 ⟨8 * i.val + s.val, by omega⟩ n))
    (raw : Vec Ideal S1x1x1x2x128 .bf16) (r : Fin 16) (n : Fin 128) :
    evenP v3 v4 u (if hi then 4#32 else 0#32) raw (ix2 r n)
      = tabVal v3 v4 hi (v412 (ix2 ⟨2 * n.val + 0, by omega⟩ ⟨16 * i.val + r.val, by omega⟩)) n * raw (ix5 0 0 0 ⟨r.val % 2, by omega⟩ n) := by
  unfold evenP
  rw [piece_apply _ _ r n ⟨r.val % 2, by omega⟩ rfl, evenW_apply _ _ r n ⟨2 * r.val + (0 : Fin 2).val, by show 2 * r.val + 0 < 32; omega⟩ rfl,
    gat_nib v3 v412 u i hi hu 0 r n, gat_nib v4 v412 u i hi hu 0 r n]
  rfl

theorem oddP_apply (v3 v4 : Vec Ideal S32x128 .i8) (v412 : Vec Ideal S256x128 .i8) (u : IVec S8x128 32) (i : Fin 8) (hi : Bool)
    (hu : ∀ (s : Fin 8) (n : Fin 128), (u (ix2 s n) : BitVec 32) = k0_pay30 (F := Ideal) v412 (ix2 ⟨8 * i.val + s.val, by omega⟩ n))
    (raw : Vec Ideal S1x1x1x2x128 .bf16) (r : Fin 16) (n : Fin 128) :
    oddP v3 v4 u (if hi then 4#32 else 0#32) raw (ix2 r n)
      = tabVal v3 v4 hi (v412 (ix2 ⟨2 * n.val + 1, by omega⟩ ⟨16 * i.val + r.val, by omega⟩)) n * raw (ix5 0 0 0 ⟨r.val % 2, by omega⟩ n) := by
  unfold oddP
  rw [piece_apply _ _ r n ⟨r.val % 2, by omega⟩ rfl, oddW_apply _ _ r n ⟨2 * r.val + (1 : Fin 2).val, by show 2 * r.val + 1 < 32; omega⟩ rfl,
    gat_nib v3 v412 u i hi hu 1 r n, gat_nib v4 v412 u i hi hu 1 r n]
  rfl

end Cert.KernelIdeal.Val

end
-- ==== Proof.Chunk.lean ====
/- One chunk of the matrix product: the 256 decoded rows of a chunk at an index, and what a trip of the chunk loop adds. -/
module

public import proofs.«01_k».proof.Proof.Gen.KernelIdeal.Loops
public import proofs.«01_k».proof.Proof.Strip

@[expose] public section

set_option maxRecDepth 16384

noncomputable section

namespace Cert.KernelIdeal.Val

open Cert.KernelIdeal Cert.KernelIdeal.Gen
open Idealize.ShloMosaic Idealize.ShloMosaic.TcCoe

/-- Eight strips, one under another. -/
def rows8 (p0 p1 p2 p3 p4 p5 p6 p7 : FVec Ideal S16x128 .bf16) : FVec Ideal S128x128 .bf16 :=
  concatenate S128x128 0 [⟨S16x128, p0⟩, ⟨S16x128, p1⟩, ⟨S16x128, p2⟩, ⟨S16x128, p3⟩, ⟨S16x128, p4⟩, ⟨S16x128, p5⟩, ⟨S16x128, p6⟩, ⟨S16x128, p7⟩] concatenates_S16x128_S16x128_S16x128_S16x128_S16x128_S16x128_S16x128_S16x128_S128x128_d0

theorem rows8_apply (p : Fin 8 → FVec Ideal S16x128 .bf16) (i : Fin 8) (r : Fin 16) (n : Fin 128) :
    rows8 (p 0) (p 1) (p 2) (p 3) (p 4) (p 5) (p 6) (p 7) (ix2 ⟨16 * i.val + r.val, by omega⟩ n) = p i (ix2 r n) := by
  unfold rows8
  pointwise
  have hr := r.isLt
  obtain ⟨i, hi⟩ := i
  interval_cases i <;> dsimp only [] <;>
    (repeat rw [dif_neg (by omega)]) <;> (try rw [dif_pos (by omega)]) <;>
    exact congrArg (p _) (congrArg (fun q => ix2 q n) (Fin.ext (by dsimp only []; omega)))

/-- The eight word strips of a chunk. -/
def strip8 (v412 : Vec Ideal S256x128 .i8) (i : Fin 8) : IVec S8x128 32 :=
  match i with
  | 0 => extractStridedSlice S8x128 ![0, 0] (k0_pay30 (F := Ideal) v412) slices_S64x128_o0_0_S8x128
  | 1 => extractStridedSlice S8x128 ![8, 0] (k0_pay30 (F := Ideal) v412) slices_S64x128_o8_0_S8x128
  | 2 => extractStridedSlice S8x128 ![16, 0] (k0_pay30 (F := Ideal) v412) slices_S64x128_o16_0_S8x128
  | 3 => extractStridedSlice S8x128 ![24, 0] (k0_pay30 (F := Ideal) v412) slices_S64x128_o24_0_S8x128
  | 4 => extractStridedSlice S8x128 ![32, 0] (k0_pay30 (F := Ideal) v412) slices_S64x128_o32_0_S8x128
  | 5 => extractStridedSlice S8x128 ![40, 0] (k0_pay30 (F := Ideal) v412) slices_S64x128_o40_0_S8x128
  | 6 => extractStridedSlice S8x128 ![48, 0] (k0_pay30 (F := Ideal) v412) slices_S64x128_o48_0_S8x128
  | 7 => extractStridedSlice S8x128 ![56, 0] (k0_pay30 (F := Ideal) v412) slices_S64x128_o56_0_S8x128

theorem strip8_apply (v412 : Vec Ideal S256x128 .i8) (i : Fin 8) (s : Fin 8) (n : Fin 128) :
    (strip8 v412 i (ix2 s n) : BitVec 32) = k0_pay30 (F := Ideal) v412 (ix2 ⟨8 * i.val + s.val, by omega⟩ n) := by
  fin_cases i <;> (unfold strip8; pointwise)

/-- The decoded 256 rows of a chunk: high nibbles, then low; even output columns, then odd. -/
def wtV (v3 v4 : Vec Ideal S32x128 .i8) (v412 : Vec Ideal S256x128 .i8) (e0 e1 e2 e3 o0 o1 o2 o3 : Vec Ideal S1x1x1x2x128 .bf16) : FVec Ideal S256x256 .bf16 :=
  concatenate S256x256 0
    [⟨S128x256, concatenate S128x256 1 [
       ⟨S128x128, rows8 (evenP v3 v4 (strip8 v412 0) 4#32 e0) (evenP v3 v4 (strip8 v412 1) 4#32 e0) (evenP v3 v4 (strip8 v412 2) 4#32 e1) (evenP v3 v4 (strip8 v412 3) 4#32 e1) (evenP v3 v4 (strip8 v412 4) 4#32 e2) (evenP v3 v4 (strip8 v412 5) 4#32 e2) (evenP v3 v4 (strip8 v412 6) 4#32 e3) (evenP v3 v4 (strip8 v412 7) 4#32 e3)⟩,
       ⟨S128x128, rows8 (oddP v3 v4 (strip8 v412 0) 4#32 o0) (oddP v3 v4 (strip8 v412 1) 4#32 o0) (oddP v3 v4 (strip8 v412 2) 4#32 o1) (oddP v3 v4 (strip8 v412 3) 4#32 o1) (oddP v3 v4 (strip8 v412 4) 4#32 o2) (oddP v3 v4 (strip8 v412 5) 4#32 o2) (oddP v3 v4 (strip8 v412 6) 4#32 o3) (oddP v3 v4 (strip8 v412 7) 4#32 o3)⟩] concatenates_S128x128_S128x128_S128x256_d1⟩,
     ⟨S128x256, concatenate S128x256 1 [
       ⟨S128x128, rows8 (evenP v3 v4 (strip8 v412 0) 0#32 e0) (evenP v3 v4 (strip8 v412 1) 0#32 e0) (evenP v3 v4 (strip8 v412 2) 0#32 e1) (evenP v3 v4 (strip8 v412 3) 0#32 e1) (evenP v3 v4 (strip8 v412 4) 0#32 e2) (evenP v3 v4 (strip8 v412 5) 0#32 e2) (evenP v3 v4 (strip8 v412 6) 0#32 e3) (evenP v3 v4 (strip8 v412 7) 0#32 e3)⟩,
       ⟨S128x128, rows8 (oddP v3 v4 (strip8 v412 0) 0#32 o0) (oddP v3 v4 (strip8 v412 1) 0#32 o0) (oddP v3 v4 (strip8 v412 2) 0#32 o1) (oddP v3 v4 (strip8 v412 3) 0#32 o1) (oddP v3 v4 (strip8 v412 4) 0#32 o2) (oddP v3 v4 (strip8 v412 5) 0#32 o2) (oddP v3 v4 (strip8 v412 6) 0#32 o3) (oddP v3 v4 (strip8 v412 7) 0#32 o3)⟩] concatenates_S128x128_S128x128_S128x256_d1⟩] concatenates_S128x256_S128x256_S256x256_d0

set_option maxHeartbeats 4000000 in
theorem trip_eq (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec Ideal S32x128 .i8) (v4 : Vec Ideal S32x128 .i8) (v11 : Elt Ideal .f32) (k0_t2 : Fin k0_t2_loop.trips) (v16 : BitVec 32) (v18 : BitVec 32) (v21 : BitVec 32) (v208 : IVec S44x128 32) (v210 : IVec S44x128 1) (v212 : FVec Ideal S44x128 .f32) (v213 : FVec Ideal S1x128 .f32) (mv_v448 : Memref sig .tc .vmem S2x2x44x2x128 .bf16) (hcanon_v448 : (arg13.slice (Rect.unit (s := S4x2x2x44x2x128) (k0_off13 k0_t2) S1x2x2x44x2x128.size (k0_off13_inb k0_t2)) (fun _ => rfl)).squeeze S2x2x44x2x128 squeezes_S1x2x2x44x2x128_S2x2x44x2x128 = mv_v448) (X_arg2 : BufTy.Contents (Elt Ideal) arg2.view.ty) (X_arg11 : BufTy.Contents (Elt Ideal) arg11.view.ty) (X_v448 : BufTy.Contents (Elt Ideal) mv_v448.view.ty) (k : Fin k0_t3_loop.trips) (acc : FVec Ideal S64x256 .f32) :
    (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 (k0_pay7) v11 k0_t2 v16 v18 v21 v208 v210 v212 v213 mv_v448 hcanon_v448 X_arg2 X_arg11 X_v448 k).1 acc
      = addf acc (matmul (φ₁ := .bf16) (φ₂ := .bf16) dot_S64x256_S256x256_S64x256_1_0_0_1_n_n none
          (View.readAt (Elt Ideal) arg11.view (Rect.unit (s := S64x5632) (k0_off18 k) S64x256.size (k0_off18_inb k)).toLoadRect X_arg11)
          (wtV v3 v4 (View.readAt (Elt Ideal) arg2.view (Rect.unit (s := S1024x2816) (k0_off12 k0_t2 k) S256x128.size (k0_off12_inb k0_t2 k)).toLoadRect X_arg2)
            (View.readAt (Elt Ideal) mv_v448.view (Rect.unit (s := S2x2x44x2x128) (k0_off14 k 0#32) S1x1x1x2x128.size (k0_off14_inb k 0)).toLoadRect X_v448) (View.readAt (Elt Ideal) mv_v448.view (Rect.unit (s := S2x2x44x2x128) (k0_off16 k 0#32) S1x1x1x2x128.size (k0_off16_inb k 0)).toLoadRect X_v448) (View.readAt (Elt Ideal) mv_v448.view (Rect.unit (s := S2x2x44x2x128) (k0_off14 k 1#32) S1x1x1x2x128.size (k0_off14_inb k 1)).toLoadRect X_v448) (View.readAt (Elt Ideal) mv_v448.view (Rect.unit (s := S2x2x44x2x128) (k0_off16 k 1#32) S1x1x1x2x128.size (k0_off16_inb k 1)).toLoadRect X_v448) (View.readAt (Elt Ideal) mv_v448.view (Rect.unit (s := S2x2x44x2x128) (k0_off15 k 0#32) S1x1x1x2x128.size (k0_off15_inb k 0)).toLoadRect X_v448) (View.readAt (Elt Ideal) mv_v448.view (Rect.unit (s := S2x2x44x2x128) (k0_off17 k 0#32) S1x1x1x2x128.size (k0_off17_inb k 0)).toLoadRect X_v448) (View.readAt (Elt Ideal) mv_v448.view (Rect.unit (s := S2x2x44x2x128) (k0_off15 k 1#32) S1x1x1x2x128.size (k0_off15_inb k 1)).toLoadRect X_v448) (View.readAt (Elt Ideal) mv_v448.view (Rect.unit (s := S2x2x44x2x128) (k0_off17 k 1#32) S1x1x1x2x128.size (k0_off17_inb k 1)).toLoadRect X_v448))
          (constant S64x256 .f32 0x00000000#32)) := by
  unfold trip_k0_t3
  rfl

end Cert.KernelIdeal.Val

end
-- ==== Proof.ChunkVal.lean ====
/- A chunk trip at an index: what it adds, as sums over the packed bytes, the scales and the prepared activations. -/
module

public import proofs.«01_k».proof.Proof.Chunk

@[expose] public section

set_option maxRecDepth 16384

noncomputable section

namespace Cert.KernelIdeal.Val

open Cert.KernelIdeal Cert.KernelIdeal.Gen
open Idealize.ShloMosaic Idealize.ShloMosaic.TcCoe

/-- A load at a unit-stride rectangle reads the view at the offset index. -/
theorem rdAt {sig : RefSig} {κ : Kind} {sp : Space} {s : Shape} {e : EltTy} {Val : EltTy → Type} (v : View sig κ sp s e)
    {off size : Fin s.rank → ℕ} (inb : ∀ a, off a + size a ≤ s.size a) (f : v.ty.Contents Val)
    {off' : Fin s.rank → ℕ} (heq : off = off') (x : (Rect.unit off size inb).shape.Idx) (y : s.Idx) (h : ∀ a, (y a).val = off' a + (x a).val) :
    v.readAt Val (Rect.unit off size inb).toLoadRect f x = v.read Val f y := by
  subst heq
  rw [View.readAt_apply]
  congr 1
  funext a
  apply Fin.ext
  rw [h a]
  show off a + 1 * (x a).val = _
  omega

theorem off12 : ∀ (t : Fin k0_t2_loop.trips) (k : Fin k0_t3_loop.trips), k0_off12 t k = ![256 * t.val, 128 * k.val] := by decide
theorem off14 : ∀ (k : Fin k0_t3_loop.trips) (z : Fin 2), k0_off14 k (BitVec.ofNat 32 z.val) = ![0, 0, 2 * k.val + z.val, 0, 0] := by decide
theorem off15 : ∀ (k : Fin k0_t3_loop.trips) (z : Fin 2), k0_off15 k (BitVec.ofNat 32 z.val) = ![1, 0, 2 * k.val + z.val, 0, 0] := by decide
theorem off16 : ∀ (k : Fin k0_t3_loop.trips) (z : Fin 2), k0_off16 k (BitVec.ofNat 32 z.val) = ![0, 1, 2 * k.val + z.val, 0, 0] := by decide
theorem off17 : ∀ (k : Fin k0_t3_loop.trips) (z : Fin 2), k0_off17 k (BitVec.ofNat 32 z.val) = ![1, 1, 2 * k.val + z.val, 0, 0] := by decide
theorem off18 : ∀ (k : Fin k0_t3_loop.trips), k0_off18 k = ![0, 256 * k.val] := by decide

/-- Four blocks laid out two by two, at an index. -/
theorem quad_apply (f : Fin 2 → Fin 2 → FVec Ideal S128x128 .bf16) (hl pn : Fin 2) (s n : Fin 128) :
    concatenate S256x256 0
      [⟨S128x256, concatenate S128x256 1 [⟨S128x128, f 0 0⟩, ⟨S128x128, f 0 1⟩] concatenates_S128x128_S128x128_S128x256_d1⟩,
       ⟨S128x256, concatenate S128x256 1 [⟨S128x128, f 1 0⟩, ⟨S128x128, f 1 1⟩] concatenates_S128x128_S128x128_S128x256_d1⟩] concatenates_S128x256_S128x256_S256x256_d0
        (ix2 ⟨128 * hl.val + s.val, by omega⟩ ⟨128 * pn.val + n.val, by omega⟩)
      = f hl pn (ix2 s n) := by
  have hs := s.isLt
  have hn := n.isLt
  pointwise
  fin_cases hl <;> fin_cases pn <;> dsimp only [] <;>
    (repeat first | rw [dif_neg (by omega)] | rw [dif_pos (by omega)]) <;>
    exact congrArg _ (by congr 1 <;> exact Fin.ext (by dsimp only []; omega))

set_option maxHeartbeats 4000000 in
/-- The decoded chunk at an index: the nibble's value times its block's scale. -/
theorem wtV_apply (v3 v4 : Vec Ideal S32x128 .i8) (v412 : Vec Ideal S256x128 .i8) (raw : Fin 2 → Fin 4 → Vec Ideal S1x1x1x2x128 .bf16)
    (hl : Fin 2) (s : Fin 128) (pn : Fin 2) (n : Fin 128) :
    wtV v3 v4 v412 (raw 0 0) (raw 0 1) (raw 0 2) (raw 0 3) (raw 1 0) (raw 1 1) (raw 1 2) (raw 1 3)
        (ix2 ⟨128 * hl.val + s.val, by omega⟩ ⟨128 * pn.val + n.val, by omega⟩)
      = tabVal v3 v4 (decide (hl = 0)) (v412 (ix2 ⟨2 * n.val + pn.val, by omega⟩ s)) n
        * raw pn ⟨s.val / 32, by omega⟩ (ix5 0 0 0 ⟨s.val % 2, by omega⟩ n) := by
  have hs := s.isLt
  have hn := n.isLt
  have key : ∀ (f : Fin 8 → FVec Ideal S16x128 .bf16),
      rows8 (f 0) (f 1) (f 2) (f 3) (f 4) (f 5) (f 6) (f 7) (ix2 s n) = f ⟨s.val / 16, by omega⟩ (ix2 ⟨s.val % 16, by omega⟩ n) := by
    intro f
    rw [← rows8_apply f ⟨s.val / 16, by omega⟩ ⟨s.val % 16, by omega⟩ n]
    congr 2
    exact Fin.ext (by show s.val = 16 * (s.val / 16) + s.val % 16; omega)
  have es : (⟨16 * (⟨s.val / 16, by omega⟩ : Fin 8).val + (⟨s.val % 16, by omega⟩ : Fin 16).val, by show 16 * (s.val / 16) + s.val % 16 < 128; omega⟩ : Fin 128) = s :=
    Fin.ext (by show 16 * (s.val / 16) + s.val % 16 = s.val; omega)
  have er : (⟨(⟨s.val % 16, by omega⟩ : Fin 16).val % 2, by omega⟩ : Fin 2) = ⟨s.val % 2, by omega⟩ :=
    Fin.ext (by show s.val % 16 % 2 = s.val % 2; omega)
  have hraw : ∀ p : Fin 2, (fun i : Fin 8 => raw p ⟨i.val / 2, by omega⟩) ⟨s.val / 16, by omega⟩ = raw p ⟨s.val / 32, by omega⟩ := by
    intro p
    show raw p _ = _
    congr 1
    exact Fin.ext (by show s.val / 16 / 2 = s.val / 32; omega)
  have hE : ∀ hi : Bool, rows8 (evenP v3 v4 (strip8 v412 0) (if hi then 4#32 else 0#32) (raw 0 0)) (evenP v3 v4 (strip8 v412 1) (if hi then 4#32 else 0#32) (raw 0 0)) (evenP v3 v4 (strip8 v412 2) (if hi then 4#32 else 0#32) (raw 0 1)) (evenP v3 v4 (strip8 v412 3) (if hi then 4#32 else 0#32) (raw 0 1)) (evenP v3 v4 (strip8 v412 4) (if hi then 4#32 else 0#32) (raw 0 2)) (evenP v3 v4 (strip8 v412 5) (if hi then 4#32 else 0#32) (raw 0 2)) (evenP v3 v4 (strip8 v412 6) (if hi then 4#32 else 0#32) (raw 0 3)) (evenP v3 v4 (strip8 v412 7) (if hi then 4#32 else 0#32) (raw 0 3)) (ix2 s n)
      = tabVal v3 v4 hi (v412 (ix2 ⟨2 * n.val + 0, by omega⟩ s)) n * raw 0 ⟨s.val / 32, by omega⟩ (ix5 0 0 0 ⟨s.val % 2, by omega⟩ n) := by
    intro hi
    refine (key fun i => evenP v3 v4 (strip8 v412 i) (if hi then 4#32 else 0#32) (raw 0 ⟨i.val / 2, by omega⟩)).trans ?_
    show evenP v3 v4 (strip8 v412 ⟨s.val / 16, by omega⟩) (if hi then 4#32 else 0#32) (raw 0 _) (ix2 ⟨s.val % 16, by omega⟩ n) = _
    rw [evenP_apply v3 v4 v412 _ ⟨s.val / 16, by omega⟩ hi (strip8_apply v412 ⟨s.val / 16, by omega⟩), es, er]
    exact congrArg (fun q : Vec Ideal S1x1x1x2x128 .bf16 => tabVal v3 v4 hi (v412 (ix2 ⟨2 * n.val + 0, by omega⟩ s)) n * q (ix5 0 0 0 ⟨s.val % 2, by omega⟩ n)) (hraw 0)
  have hO : ∀ hi : Bool, rows8 (oddP v3 v4 (strip8 v412 0) (if hi then 4#32 else 0#32) (raw 1 0)) (oddP v3 v4 (strip8 v412 1) (if hi then 4#32 else 0#32) (raw 1 0)) (oddP v3 v4 (strip8 v412 2) (if hi then 4#32 else 0#32) (raw 1 1)) (oddP v3 v4 (strip8 v412 3) (if hi then 4#32 else 0#32) (raw 1 1)) (oddP v3 v4 (strip8 v412 4) (if hi then 4#32 else 0#32) (raw 1 2)) (oddP v3 v4 (strip8 v412 5) (if hi then 4#32 else 0#32) (raw 1 2)) (oddP v3 v4 (strip8 v412 6) (if hi then 4#32 else 0#32) (raw 1 3)) (oddP v3 v4 (strip8 v412 7) (if hi then 4#32 else 0#32) (raw 1 3)) (ix2 s n)
      = tabVal v3 v4 hi (v412 (ix2 ⟨2 * n.val + 1, by omega⟩ s)) n * raw 1 ⟨s.val / 32, by omega⟩ (ix5 0 0 0 ⟨s.val % 2, by omega⟩ n) := by
    intro hi
    refine (key fun i => oddP v3 v4 (strip8 v412 i) (if hi then 4#32 else 0#32) (raw 1 ⟨i.val / 2, by omega⟩)).trans ?_
    show oddP v3 v4 (strip8 v412 ⟨s.val / 16, by omega⟩) (if hi then 4#32 else 0#32) (raw 1 _) (ix2 ⟨s.val % 16, by omega⟩ n) = _
    rw [oddP_apply v3 v4 v412 _ ⟨s.val / 16, by omega⟩ hi (strip8_apply v412 ⟨s.val / 16, by omega⟩), es, er]
    exact congrArg (fun q : Vec Ideal S1x1x1x2x128 .bf16 => tabVal v3 v4 hi (v412 (ix2 ⟨2 * n.val + 1, by omega⟩ s)) n * q (ix5 0 0 0 ⟨s.val % 2, by omega⟩ n)) (hraw 1)
  unfold wtV
  refine (quad_apply (fun a b => ![![rows8 (evenP v3 v4 (strip8 v412 0) 4#32 (raw 0 0)) (evenP v3 v4 (strip8 v412 1) 4#32 (raw 0 0)) (evenP v3 v4 (strip8 v412 2) 4#32 (raw 0 1)) (evenP v3 v4 (strip8 v412 3) 4#32 (raw 0 1)) (evenP v3 v4 (strip8 v412 4) 4#32 (raw 0 2)) (evenP v3 v4 (strip8 v412 5) 4#32 (raw 0 2)) (evenP v3 v4 (strip8 v412 6) 4#32 (raw 0 3)) (evenP v3 v4 (strip8 v412 7) 4#32 (raw 0 3)), rows8 (oddP v3 v4 (strip8 v412 0) 4#32 (raw 1 0)) (oddP v3 v4 (strip8 v412 1) 4#32 (raw 1 0)) (oddP v3 v4 (strip8 v412 2) 4#32 (raw 1 1)) (oddP v3 v4 (strip8 v412 3) 4#32 (raw 1 1)) (oddP v3 v4 (strip8 v412 4) 4#32 (raw 1 2)) (oddP v3 v4 (strip8 v412 5) 4#32 (raw 1 2)) (oddP v3 v4 (strip8 v412 6) 4#32 (raw 1 3)) (oddP v3 v4 (strip8 v412 7) 4#32 (raw 1 3))], ![rows8 (evenP v3 v4 (strip8 v412 0) 0#32 (raw 0 0)) (evenP v3 v4 (strip8 v412 1) 0#32 (raw 0 0)) (evenP v3 v4 (strip8 v412 2) 0#32 (raw 0 1)) (evenP v3 v4 (strip8 v412 3) 0#32 (raw 0 1)) (evenP v3 v4 (strip8 v412 4) 0#32 (raw 0 2)) (evenP v3 v4 (strip8 v412 5) 0#32 (raw 0 2)) (evenP v3 v4 (strip8 v412 6) 0#32 (raw 0 3)) (evenP v3 v4 (strip8 v412 7) 0#32 (raw 0 3)), rows8 (oddP v3 v4 (strip8 v412 0) 0#32 (raw 1 0)) (oddP v3 v4 (strip8 v412 1) 0#32 (raw 1 0)) (oddP v3 v4 (strip8 v412 2) 0#32 (raw 1 1)) (oddP v3 v4 (strip8 v412 3) 0#32 (raw 1 1)) (oddP v3 v4 (strip8 v412 4) 0#32 (raw 1 2)) (oddP v3 v4 (strip8 v412 5) 0#32 (raw 1 2)) (oddP v3 v4 (strip8 v412 6) 0#32 (raw 1 3)) (oddP v3 v4 (strip8 v412 7) 0#32 (raw 1 3))]] a b) hl pn s n).trans ?_
  fin_cases hl <;> fin_cases pn
  · exact hE true
  · exact hO true
  · exact hE false
  · exact hO false

/-- The 128 positions of a half chunk: what one trip adds to an accumulator element. -/
def chunkSum (x : Fin 64 → Fin 5632 → EReal) (v3 v4 : Vec Ideal S32x128 .i8) (w : Fin 1024 → Fin 2816 → BitVec 8)
    (a : Fin 2 → Fin 2 → Fin 44 → Fin 2 → Fin 128 → EReal) (t : ℕ) (ht : t < 4) (k : ℕ) (hk : k < 22) (m : Fin 64) (pn : Fin 2) (n : Fin 128) : EReal :=
  (∑ s : Fin 128, x m ⟨256 * k + s.val, by omega⟩ * (tabVal v3 v4 true (w ⟨256 * t + (2 * n.val + pn.val), by omega⟩ ⟨128 * k + s.val, by omega⟩) n
      * a pn ⟨s.val / 32 % 2, by omega⟩ ⟨2 * k + s.val / 64, by omega⟩ ⟨s.val % 2, by omega⟩ n))
  + ∑ s : Fin 128, x m ⟨256 * k + (128 + s.val), by omega⟩ * (tabVal v3 v4 false (w ⟨256 * t + (2 * n.val + pn.val), by omega⟩ ⟨128 * k + s.val, by omega⟩) n
      * a pn ⟨s.val / 32 % 2, by omega⟩ ⟨2 * k + s.val / 64, by omega⟩ ⟨s.val % 2, by omega⟩ n)

theorem chunk_sum (v3 v4 : Vec Ideal S32x128 .i8) (X : FVec Ideal S64x256 .bf16) (V : Vec Ideal S256x128 .i8) (raw : Fin 2 → Fin 4 → Vec Ideal S1x1x1x2x128 .bf16)
    (acc : FVec Ideal S64x256 .f32) (m : Fin 64) (pn : Fin 2) (n : Fin 128) :
    addf acc (matmul (φ₁ := .bf16) (φ₂ := .bf16) dot_S64x256_S256x256_S64x256_1_0_0_1_n_n none X
        (wtV v3 v4 V (raw 0 0) (raw 0 1) (raw 0 2) (raw 0 3) (raw 1 0) (raw 1 1) (raw 1 2) (raw 1 3)) (constant S64x256 .f32 0x00000000#32)) (ix2 m ⟨128 * pn.val + n.val, by omega⟩)
      = acc (ix2 m ⟨128 * pn.val + n.val, by omega⟩)
        + ((∑ s : Fin 128, X (ix2 m ⟨s.val, by omega⟩) * (tabVal v3 v4 true (V (ix2 ⟨2 * n.val + pn.val, by omega⟩ s)) n * raw pn ⟨s.val / 32, by omega⟩ (ix5 0 0 0 ⟨s.val % 2, by omega⟩ n)))
          + ∑ s : Fin 128, X (ix2 m ⟨128 + s.val, by omega⟩) * (tabVal v3 v4 false (V (ix2 ⟨2 * n.val + pn.val, by omega⟩ s)) n * raw pn ⟨s.val / 32, by omega⟩ (ix5 0 0 0 ⟨s.val % 2, by omega⟩ n))) := by
  pointwise
  refine congrArg (acc _ + ·) ?_
  refine (Fin.sum_univ_add (a := 128) (b := 128) _).trans ?_
  refine congrArg₂ (· + ·) (Finset.sum_congr rfl fun s _ => ?_) (Finset.sum_congr rfl fun s _ => ?_)
  · refine congrArg₂ (· * ·) rfl ?_
    refine Eq.trans ?_ (wtV_apply v3 v4 V raw 0 s pn n)
    exact congrArg (fun q => wtV v3 v4 V _ _ _ _ _ _ _ _ (ix2 q _)) (Fin.ext (by show s.val = 128 * 0 + s.val; omega))
  · refine congrArg₂ (· * ·) rfl ?_
    refine Eq.trans ?_ (wtV_apply v3 v4 V raw 1 s pn n)
    exact congrArg (fun q => wtV v3 v4 V _ _ _ _ _ _ _ _ (ix2 q _)) (Fin.ext (by show 128 + s.val = 128 * 1 + s.val; omega))

set_option maxHeartbeats 1000000 in
theorem trip_apply (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec Ideal S32x128 .i8) (v4 : Vec Ideal S32x128 .i8) (v11 : Elt Ideal .f32) (k0_t2 : Fin k0_t2_loop.trips) (v16 : BitVec 32) (v18 : BitVec 32) (v21 : BitVec 32) (v208 : IVec S44x128 32) (v210 : IVec S44x128 1) (v212 : FVec Ideal S44x128 .f32) (v213 : FVec Ideal S1x128 .f32) (mv_v448 : Memref sig .tc .vmem S2x2x44x2x128 .bf16) (hcanon_v448 : (arg13.slice (Rect.unit (s := S4x2x2x44x2x128) (k0_off13 k0_t2) S1x2x2x44x2x128.size (k0_off13_inb k0_t2)) (fun _ => rfl)).squeeze S2x2x44x2x128 squeezes_S1x2x2x44x2x128_S2x2x44x2x128 = mv_v448) (X_arg2 : BufTy.Contents (Elt Ideal) arg2.view.ty) (X_arg11 : BufTy.Contents (Elt Ideal) arg11.view.ty) (X_v448 : BufTy.Contents (Elt Ideal) mv_v448.view.ty) (k : Fin k0_t3_loop.trips) (acc : FVec Ideal S64x256 .f32) (m : Fin 64) (pn : Fin 2) (n : Fin 128) (ht : k0_t2.val < 4) (hk : k.val < 22) :
    (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 (k0_pay7) v11 k0_t2 v16 v18 v21 v208 v210 v212 v213 mv_v448 hcanon_v448 X_arg2 X_arg11 X_v448 k).1 acc (ix2 m ⟨128 * pn.val + n.val, by omega⟩)
      = acc (ix2 m ⟨128 * pn.val + n.val, by omega⟩)
        + chunkSum (fun m j => arg11.view.read (Elt Ideal) X_arg11 (ix2 m j)) v3 v4 (fun r j => arg2.view.read (Elt Ideal) X_arg2 (ix2 r j))
          (fun p q b e l => mv_v448.view.read (Elt Ideal) X_v448 (ix5 p q b e l)) k0_t2.val ht k.val hk m pn n := by
  have hraw : ∀ (p : Fin 2) (q : Fin 4) (e : Fin 2) (l : Fin 128), (fun (p : Fin 2) (q : Fin 4) => (![![(View.readAt (Elt Ideal) mv_v448.view (Rect.unit (s := S2x2x44x2x128) (k0_off14 k 0#32) S1x1x1x2x128.size (k0_off14_inb k 0)).toLoadRect X_v448), (View.readAt (Elt Ideal) mv_v448.view (Rect.unit (s := S2x2x44x2x128) (k0_off16 k 0#32) S1x1x1x2x128.size (k0_off16_inb k 0)).toLoadRect X_v448), (View.readAt (Elt Ideal) mv_v448.view (Rect.unit (s := S2x2x44x2x128) (k0_off14 k 1#32) S1x1x1x2x128.size (k0_off14_inb k 1)).toLoadRect X_v448), (View.readAt (Elt Ideal) mv_v448.view (Rect.unit (s := S2x2x44x2x128) (k0_off16 k 1#32) S1x1x1x2x128.size (k0_off16_inb k 1)).toLoadRect X_v448)], ![(View.readAt (Elt Ideal) mv_v448.view (Rect.unit (s := S2x2x44x2x128) (k0_off15 k 0#32) S1x1x1x2x128.size (k0_off15_inb k 0)).toLoadRect X_v448), (View.readAt (Elt Ideal) mv_v448.view (Rect.unit (s := S2x2x44x2x128) (k0_off17 k 0#32) S1x1x1x2x128.size (k0_off17_inb k 0)).toLoadRect X_v448), (View.readAt (Elt Ideal) mv_v448.view (Rect.unit (s := S2x2x44x2x128) (k0_off15 k 1#32) S1x1x1x2x128.size (k0_off15_inb k 1)).toLoadRect X_v448), (View.readAt (Elt Ideal) mv_v448.view (Rect.unit (s := S2x2x44x2x128) (k0_off17 k 1#32) S1x1x1x2x128.size (k0_off17_inb k 1)).toLoadRect X_v448)]] p q : Vec Ideal S1x1x1x2x128 .bf16)) p q (ix5 0 0 0 e l)
      = mv_v448.view.read (Elt Ideal) X_v448 (ix5 p ⟨q.val % 2, by omega⟩ ⟨2 * k.val + q.val / 2, by omega⟩ e l) := by
    intro p q e l
    fin_cases p <;> fin_cases q
    · exact rdAt mv_v448.view _ X_v448 (off14 k 0) _ _ (by intro a; fin_cases a <;> simp [ix5])
    · exact rdAt mv_v448.view _ X_v448 (off16 k 0) _ _ (by intro a; fin_cases a <;> simp [ix5])
    · exact rdAt mv_v448.view _ X_v448 (off14 k 1) _ _ (by intro a; fin_cases a <;> simp [ix5])
    · exact rdAt mv_v448.view _ X_v448 (off16 k 1) _ _ (by intro a; fin_cases a <;> simp [ix5])
    · exact rdAt mv_v448.view _ X_v448 (off15 k 0) _ _ (by intro a; fin_cases a <;> simp [ix5])
    · exact rdAt mv_v448.view _ X_v448 (off17 k 0) _ _ (by intro a; fin_cases a <;> simp [ix5])
    · exact rdAt mv_v448.view _ X_v448 (off15 k 1) _ _ (by intro a; fin_cases a <;> simp [ix5])
    · exact rdAt mv_v448.view _ X_v448 (off17 k 1) _ _ (by intro a; fin_cases a <;> simp [ix5])
  rw [trip_eq]
  refine (chunk_sum v3 v4 _ _ (fun (p : Fin 2) (q : Fin 4) => (![![(View.readAt (Elt Ideal) mv_v448.view (Rect.unit (s := S2x2x44x2x128) (k0_off14 k 0#32) S1x1x1x2x128.size (k0_off14_inb k 0)).toLoadRect X_v448), (View.readAt (Elt Ideal) mv_v448.view (Rect.unit (s := S2x2x44x2x128) (k0_off16 k 0#32) S1x1x1x2x128.size (k0_off16_inb k 0)).toLoadRect X_v448), (View.readAt (Elt Ideal) mv_v448.view (Rect.unit (s := S2x2x44x2x128) (k0_off14 k 1#32) S1x1x1x2x128.size (k0_off14_inb k 1)).toLoadRect X_v448), (View.readAt (Elt Ideal) mv_v448.view (Rect.unit (s := S2x2x44x2x128) (k0_off16 k 1#32) S1x1x1x2x128.size (k0_off16_inb k 1)).toLoadRect X_v448)], ![(View.readAt (Elt Ideal) mv_v448.view (Rect.unit (s := S2x2x44x2x128) (k0_off15 k 0#32) S1x1x1x2x128.size (k0_off15_inb k 0)).toLoadRect X_v448), (View.readAt (Elt Ideal) mv_v448.view (Rect.unit (s := S2x2x44x2x128) (k0_off17 k 0#32) S1x1x1x2x128.size (k0_off17_inb k 0)).toLoadRect X_v448), (View.readAt (Elt Ideal) mv_v448.view (Rect.unit (s := S2x2x44x2x128) (k0_off15 k 1#32) S1x1x1x2x128.size (k0_off15_inb k 1)).toLoadRect X_v448), (View.readAt (Elt Ideal) mv_v448.view (Rect.unit (s := S2x2x44x2x128) (k0_off17 k 1#32) S1x1x1x2x128.size (k0_off17_inb k 1)).toLoadRect X_v448)]] p q : Vec Ideal S1x1x1x2x128 .bf16)) acc m pn n).trans ?_
  unfold chunkSum
  refine congrArg (acc _ + ·) (congrArg₂ (· + ·) (Finset.sum_congr rfl fun s _ => ?_) (Finset.sum_congr rfl fun s _ => ?_))
  · refine congrArg₂ (· * ·) ?_ (congrArg₂ (· * ·) (congrArg (fun b => tabVal v3 v4 true b n) ?_) ?_)
    · exact rdAt arg11.view _ X_arg11 (off18 k) _ _ (by intro a; fin_cases a <;> simp [ix2])
    · exact rdAt arg2.view _ X_arg2 (off12 k0_t2 k) _ _ (by intro a; fin_cases a <;> simp [ix2])
    · refine (hraw pn ⟨s.val / 32, by omega⟩ ⟨s.val % 2, by omega⟩ n).trans ?_
      congr 2
      exact Fin.ext (by show 2 * k.val + s.val / 32 / 2 = 2 * k.val + s.val / 64; omega)
  · refine congrArg₂ (· * ·) ?_ (congrArg₂ (· * ·) (congrArg (fun b => tabVal v3 v4 false b n) ?_) ?_)
    · exact rdAt arg11.view _ X_arg11 (off18 k) _ _ (by intro a; fin_cases a <;> simp [ix2])
    · exact rdAt arg2.view _ X_arg2 (off12 k0_t2 k) _ _ (by intro a; fin_cases a <;> simp [ix2])
    · refine (hraw pn ⟨s.val / 32, by omega⟩ ⟨s.val % 2, by omega⟩ n).trans ?_
      congr 2
      exact Fin.ext (by show 2 * k.val + s.val / 32 / 2 = 2 * k.val + s.val / 64; omega)

end Cert.KernelIdeal.Val

end
-- ==== Proof.Scale.lean ====
/- The scales of a group of 256 output columns: each block's code times its float scale, plus the offset. -/
module

public import proofs.«01_k».proof.Proof.Strip

@[expose] public section

set_option maxRecDepth 16384

noncomputable section

namespace Cert.KernelIdeal.Val

open Cert.KernelIdeal Cert.KernelIdeal.Gen
open Idealize.ShloMosaic Idealize.ShloMosaic.TcCoe

/-- 88 times the output column each lane holds. -/
def nV (pn : BitVec 32) : IVec S1x128 32 :=
  muli (addi (muli (broadcast S1x128 2#32) (iota .tc S1x128 32 [1] iota_S1x128_d1_w32)) (broadcast S1x128 pn)) (broadcast S1x128 88#32)

/-- The sign of 256, as the kernel computes it. -/
def sgnV : BitVec 32 := Scalar.subi (Scalar.extui (Scalar.cmpi .sgt 256#32 0#32)) (Scalar.extui (Scalar.cmpi .slt 256#32 0#32))

/-- Floor division by 256. -/
def qV (v : IVec S1x128 32) : IVec S1x128 32 :=
  select (andi (cmpi .ne (subi (extui 32 (cmpi .sgt v (broadcast S1x128 0#32)) natLt_1_32) (extui 32 (cmpi .slt v (broadcast S1x128 0#32)) natLt_1_32))
        (broadcast S1x128 sgnV)) (cmpi .ne (remsi v (broadcast S1x128 256#32)) (broadcast S1x128 0#32)))
    (subi (divsi v (broadcast S1x128 256#32)) (broadcast S1x128 1#32)) (divsi v (broadcast S1x128 256#32))

/-- How many of a lane's blocks still lie in its first scale. -/
def tV (v : IVec S1x128 32) : IVec S1x128 32 :=
  subi (muli (addi (qV v) (broadcast S1x128 1#32)) (broadcast S1x128 256#32)) v

/-- The second scale's index. -/
def q1V (v : IVec S1x128 32) : IVec S1x128 32 := minsi (addi (qV v) (broadcast S1x128 1#32)) (broadcast S1x128 87#32)

theorem qV_apply : ∀ (pn : Fin 2) (l : Fin 128), qV (nV (BitVec.ofNat 32 pn.val)) (ix2 0 l) = BitVec.ofNat 32 ((2 * l.val + pn.val) * 88 / 256) := by
  decide +kernel

theorem tV_apply : ∀ (pn : Fin 2) (l : Fin 128), tV (nV (BitVec.ofNat 32 pn.val)) (ix2 0 l)
    = BitVec.ofNat 32 (((2 * l.val + pn.val) * 88 / 256 + 1) * 256 - (2 * l.val + pn.val) * 88) := by
  decide +kernel

theorem q1V_apply : ∀ (pn : Fin 2) (l : Fin 128), q1V (nV (BitVec.ofNat 32 pn.val)) (ix2 0 l)
    = BitVec.ofNat 32 (min ((2 * l.val + pn.val) * 88 / 256 + 1) 87) := by
  decide +kernel

/-- The block each row holds. -/
def rV (pb : BitVec 32) : IVec S44x128 32 :=
  addi (muli (broadcast S44x128 2#32) (iota .tc S44x128 32 [0] iota_S44x128_d0_w32)) (broadcast S44x128 pb)

theorem rV_apply (pb : Fin 2) (b : Fin 44) (l : Fin 128) : rV (BitVec.ofNat 32 pb.val) (ix2 b l) = BitVec.ofNat 32 (2 * b.val + pb.val) := by
  have h : ∀ (pb : Fin 2) (b : Fin 44), IntOp.addi (IntOp.muli 2#32 (BitVec.ofNat 32 b.val)) (BitVec.ofNat 32 pb.val) = BitVec.ofNat 32 (2 * b.val + pb.val) := by
    decide +kernel
  unfold rV
  pointwise
  exact h pb b

/-- Lanes of the scale row, chosen per lane. -/
def lgat (v26 : FVec Ideal S1x128 .f32) (i : IVec S1x128 32) : FVec Ideal S1x128 .f32 :=
  dynamicGather 1 v26 (shapeCast S1x128 (shapeCast S1x128x1 i shapeCasts_S1x128_S1x128x1) shapeCasts_S1x128x1_S1x128)

theorem lgat_apply (v : FVec Ideal S1x128 .f32) (i : IVec S1x128 32) (l : Fin 128) (p : Fin 128) (hp : p.val = (i (ix2 0 l) : BitVec 32).toNat % 128) :
    lgat v i (ix2 0 l) = v (ix2 0 p) := by
  have e : lgat v i (ix2 0 l) = v (fun b => if b = 1 then ⟨(i (ix2 0 l) : BitVec 32).toNat % S1x128.size b, Nat.mod_lt _ (Fin.pos (ix2 0 l b))⟩ else ix2 0 l b) := by
    unfold lgat dynamicGather
    pointwise
  rw [e]
  congr 1
  funext b
  match b with
  | ⟨0, _⟩ => rfl
  | ⟨1, _⟩ => exact Fin.ext hp.symm

/-- A block of scales: codes times the chosen float scales, plus the offset, each value twice. -/
def sblk (v11 : Elt Ideal .f32) (v26 : FVec Ideal S1x128 .f32) (code : IVec S44x128 32) (pn pb : BitVec 32) : Vec Ideal S1x1x44x2x128 .bf16 :=
  let z := addf (mulf (sitofp .f32 code) (select (cmpi .slt (rV pb) (broadcastTo S44x128 (tV (nV pn)) broadcasts_S1x128_S44x128))
    (broadcastTo S44x128 (shapeCast S1x128 (lgat v26 (qV (nV pn))) shapeCasts_S1x128_S1x128) broadcasts_S1x128_S44x128)
    (broadcastTo S44x128 (shapeCast S1x128 (lgat v26 (q1V (nV pn))) shapeCasts_S1x128_S1x128) broadcasts_S1x128_S44x128))) (broadcast S44x128 v11)
  k0_pay167 (truncf .bf16 z) (truncf .bf16 z)

theorem slt_small (a b : ℕ) (ha : a < 2 ^ 31) (hb : b < 2 ^ 31) : IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_ofNat', BitVec.toInt_ofNat']
    have e1 : (a : ℤ).bmod (2 ^ 32) = a := by rw [Int.bmod_eq_of_le] <;> omega
    have e2 : (b : ℤ).bmod (2 ^ 32) = b := by rw [Int.bmod_eq_of_le] <;> omega
    simp only [Nat.reducePow, Int.reducePow] at e1 e2 ⊢
    simp [e1, e2]
  unfold IntOp.cmpi
  simp only [h]
  by_cases hh : a < b <;> simp [hh]

theorem sblk_apply (v11 : Elt Ideal .f32) (v26 : FVec Ideal S1x128 .f32) (code : IVec S44x128 32) (pn pb : Fin 2) (b : Fin 44) (e : Fin 2) (l : Fin 128) :
    sblk v11 v26 code (BitVec.ofNat 32 pn.val) (BitVec.ofNat 32 pb.val) (ix5 0 0 b e l)
      = FloatOps.sitofp (F := Ideal) .f32 (code (ix2 b l)) * v26 (ix2 0 ⟨((2 * l.val + pn.val) * 88 + (2 * b.val + pb.val)) / 256, by omega⟩) + v11 := by
  unfold sblk k0_pay167
  pointwise
  rw [ite_self, rV_apply, tV_apply, slt_small _ _ (by omega) (by omega)]
  have hq := qV_apply pn l
  have hq1 := q1V_apply pn l
  have hb := b.isLt
  have hl := l.isLt
  have hpn := pn.isLt
  have hpb := pb.isLt
  refine congrArg (· + v11) (congrArg (_ * ·) ?_)
  by_cases h : 2 * b.val + pb.val < ((2 * l.val + pn.val) * 88 / 256 + 1) * 256 - (2 * l.val + pn.val) * 88
  · rw [if_pos h]
    refine lgat_apply _ _ l _ ?_
    rw [hq, BitVec.toNat_ofNat, Nat.mod_eq_of_lt (show (2 * l.val + pn.val) * 88 / 256 < 2 ^ 32 by omega), Nat.mod_eq_of_lt (show (2 * l.val + pn.val) * 88 / 256 < 128 by omega)]
    dsimp only []
    have hN : (2 * l.val + pn.val) * 88 ≤ 255 * 88 := by omega
    generalize (2 * l.val + pn.val) * 88 = N at *
    generalize 2 * b.val + pb.val = M at *
    omega
  · rw [if_neg h]
    refine lgat_apply _ _ l _ ?_
    have hN : (2 * l.val + pn.val) * 88 ≤ 255 * 88 := by omega
    have hM : 2 * b.val + pb.val < 88 := by omega
    rw [hq1, BitVec.toNat_ofNat, Nat.mod_eq_of_lt (show min ((2 * l.val + pn.val) * 88 / 256 + 1) 87 < 2 ^ 32 by omega), Nat.mod_eq_of_lt (show min ((2 * l.val + pn.val) * 88 / 256 + 1) 87 < 128 by omega)]
    dsimp only []
    clear hq hq1
    generalize (2 * l.val + pn.val) * 88 = N at *
    generalize 2 * b.val + pb.val = M at *
    omega

/-- A byte of each code word, sign-extended. -/
def codeV (v23 : Vec Ideal S256x88 .i8) (sh : BitVec 32) : IVec S44x128 32 :=
  shrsi (shli (k0_pay155 (F := Ideal) v23) (broadcast S44x128 sh)) (broadcast S44x128 24#32)

theorem byte_sext (W : BitVec 32) (x : BitVec 8) (j : ℕ) (hj : j < 4) (h : ∀ q < 8, W.getLsbD (8 * j + q) = x.getLsbD q) :
    IntOp.shrsi .vector (IntOp.shli .vector W (BitVec.ofNat 32 (24 - 8 * j))) 24#32 = x.signExtend 32 := by
  unfold IntOp.shrsi IntOp.shli
  have h24 : (24#32 : BitVec 32).toNat = 24 := rfl
  have hs : (BitVec.ofNat 32 (24 - 8 * j)).toNat = 24 - 8 * j := by rw [BitVec.toNat_ofNat]; omega
  rw [if_pos (by rw [h24]; omega), if_pos (by rw [hs]; omega)]
  apply BitVec.eq_of_getLsbD_eq
  intro q hq
  rw [BitVec.getLsbD_sshiftRight', BitVec.getLsbD_signExtend, h24, BitVec.shiftLeft_eq', hs]
  have e1 : decide (32 ≤ q) = false := by simp; omega
  have e2 : decide (q < 32) = true := by simp; omega
  rw [e1, e2]
  simp only [Bool.not_false, Bool.true_and]
  by_cases hc : q < 8
  · rw [if_pos (by omega), if_pos hc, BitVec.getLsbD_shiftLeft]
    have e3 : decide (24 + q < 32) = true := by simp; omega
    have e4 : decide (24 + q < 24 - 8 * j) = false := by simp; omega
    rw [e3, e4]
    simp only [Bool.not_false, Bool.true_and]
    rw [← h q hc]
    congr 1
    omega
  · rw [if_neg (by omega), if_neg hc, BitVec.msb_eq_getLsbD_last, BitVec.msb_eq_getLsbD_last, BitVec.getLsbD_shiftLeft]
    have e3 : decide (32 - 1 < 32) = true := by decide
    have e4 : decide (32 - 1 < 24 - 8 * j) = false := by simp; omega
    rw [e3, e4]
    simp only [Bool.not_false, Bool.true_and]
    rw [← h 7 (by omega)]
    congr 1
    omega

theorem codeV_apply (v23 : Vec Ideal S256x88 .i8) (pn pb : Fin 2) (b : Fin 44) (l : Fin 128) :
    codeV v23 (BitVec.ofNat 32 (24 - 8 * (2 * pb.val + pn.val))) (ix2 b l)
      = (v23 (ix2 ⟨2 * l.val + pn.val, by omega⟩ ⟨2 * b.val + pb.val, by omega⟩) : BitVec 8).signExtend 32 := by
  have hb := b.isLt
  have hl := l.isLt
  have hpn := pn.isLt
  have hpb := pb.isLt
  refine byte_sext _ _ (2 * pb.val + pn.val) (by omega) ?_
  intro q hq
  unfold k0_pay155
  dsimp only
  rw [bc2 _ _ b l _ (by omega) (by decide) (⟨2 * b.val + pb.val, by omega⟩ : Fin 88) (by show 2 * b.val + pb.val = _; omega)]
  have e : ∀ (y : IVec S128x88 16) (b : Fin 88), transpose S88x128 [1, 0] y transposes_S128x88_p1_0_S88x128 (ix2 b l) = y (ix2 l b) := by
    intro y b
    pointwise
  rw [e]
  have e1 : (b.val * 32 + (8 * (2 * pb.val + pn.val) + q)) % 16 = 8 * pn.val + q := by omega
  rw [e1]
  rw [bc2 _ _ l _ _ (by omega) (by decide) (⟨l.val / 2, by omega⟩ : Fin 64) (by show l.val / 2 = _; omega)]
  have e2 : (l.val * 16 + (8 * pn.val + q)) % 32 = 16 * (l.val % 2) + 8 * pn.val + q := by omega
  rw [e2]
  rw [bc2 _ _ (⟨l.val / 2, by omega⟩ : Fin 64) _ _ (by omega) (by decide) (⟨2 * l.val + pn.val, by omega⟩ : Fin 256) (by show 2 * l.val + pn.val = (l.val / 2 * 32 + _) / 8; omega)]
  congr 1
  show (l.val / 2 * 32 + _) % 8 = q
  omega

end Cert.KernelIdeal.Val

end
-- ==== Proof.Lanes.lean ====
/- Lanes split into even and odd ones, and put together again: the two lane shuffles the kernel is written with. -/
module

public import proofs.«01_k».proof.Proof.Strip

@[expose] public section

set_option maxRecDepth 16384

noncomputable section

namespace Cert.KernelIdeal.Val

open Cert.KernelIdeal Cert.KernelIdeal.Gen
open Idealize.ShloMosaic Idealize.ShloMosaic.TcCoe

/-- Lanes chosen per element. -/
def rgat (v : FVec Ideal S16x128 .f32) (i : IVec S16x128 32) : FVec Ideal S16x128 .f32 :=
  dynamicGather 1 v (shapeCast S16x128 (shapeCast S16x128x1 i shapeCasts_S16x128_S16x128x1) shapeCasts_S16x128x1_S16x128)

theorem rgat_apply (v : FVec Ideal S16x128 .f32) (i : IVec S16x128 32) (r : Fin 16) (l : Fin 128) (p : Fin 128) (hp : p.val = (i (ix2 r l) : BitVec 32).toNat % 128) :
    rgat v i (ix2 r l) = v (ix2 r p) := by
  have e : rgat v i (ix2 r l) = v (fun b => if b = 1 then ⟨(i (ix2 r l) : BitVec 32).toNat % S16x128.size b, Nat.mod_lt _ (Fin.pos (ix2 r l b))⟩ else ix2 r l b) := by
    unfold rgat dynamicGather
    pointwise
  rw [e]
  congr 1
  funext b
  match b with
  | ⟨0, _⟩ => rfl
  | ⟨1, _⟩ => exact Fin.ext hp.symm

/-- The lane numbers. -/
def lV : IVec S16x128 32 := iota .tc S16x128 32 [1] iota_S16x128_d1_w32

theorem lV_apply (r : Fin 16) (l : Fin 128) : lV (ix2 r l) = BitVec.ofNat 32 l.val := by
  unfold lV
  pointwise

/-- The even lanes of two halves. -/
def deiE (b0 b1 : FVec Ideal S16x128 .f32) : FVec Ideal S16x128 .f32 :=
  select (cmpi .slt lV (broadcast S16x128 64#32))
    (rgat b0 (andi (muli (broadcast S16x128 2#32) lV) (broadcast S16x128 127#32)))
    (rgat b1 (andi (muli (broadcast S16x128 2#32) lV) (broadcast S16x128 127#32)))

/-- The odd lanes of two halves. -/
def deiO (b0 b1 : FVec Ideal S16x128 .f32) : FVec Ideal S16x128 .f32 :=
  select (cmpi .slt lV (broadcast S16x128 64#32))
    (rgat b0 (addi (andi (muli (broadcast S16x128 2#32) lV) (broadcast S16x128 127#32)) (broadcast S16x128 1#32)))
    (rgat b1 (addi (andi (muli (broadcast S16x128 2#32) lV) (broadcast S16x128 127#32)) (broadcast S16x128 1#32)))

theorem lane_lt64 : ∀ l : Fin 128, IntOp.cmpi .slt (BitVec.ofNat 32 l.val) 64#32 = if l.val < 64 then 1#1 else 0#1 := by decide +kernel

theorem lane_even : ∀ l : Fin 128, (IntOp.andi (IntOp.muli 2#32 (BitVec.ofNat 32 l.val)) 127#32).toNat % 128 = 2 * l.val % 128 := by decide +kernel

theorem lane_odd : ∀ l : Fin 128, (IntOp.addi (IntOp.andi (IntOp.muli 2#32 (BitVec.ofNat 32 l.val)) 127#32) 1#32).toNat % 128 = (2 * l.val + 1) % 128 := by decide +kernel

theorem deiE_apply (b0 b1 : FVec Ideal S16x128 .f32) (r : Fin 16) (l : Fin 128) :
    deiE b0 b1 (ix2 r l) = if l.val < 64 then b0 (ix2 r ⟨(2 * l.val) % 128, by omega⟩) else b1 (ix2 r ⟨(2 * l.val) % 128, by omega⟩) := by
  have hi : (andi (muli (broadcast S16x128 2#32) lV) (broadcast S16x128 127#32) (ix2 r l) : BitVec 32).toNat % 128 = (2 * l.val) % 128 := by
    pointwise
    rw [lV_apply]
    exact lane_even l
  unfold deiE
  pointwise
  rw [lV_apply, lane_lt64]
  rw [rgat_apply b0 _ r l ⟨(2 * l.val) % 128, by omega⟩ hi.symm, rgat_apply b1 _ r l ⟨(2 * l.val) % 128, by omega⟩ hi.symm]
  split <;> rfl

theorem deiO_apply (b0 b1 : FVec Ideal S16x128 .f32) (r : Fin 16) (l : Fin 128) :
    deiO b0 b1 (ix2 r l) = if l.val < 64 then b0 (ix2 r ⟨(2 * l.val + 1) % 128, by omega⟩) else b1 (ix2 r ⟨(2 * l.val + 1) % 128, by omega⟩) := by
  have hi : (addi (andi (muli (broadcast S16x128 2#32) lV) (broadcast S16x128 127#32)) (broadcast S16x128 1#32) (ix2 r l) : BitVec 32).toNat % 128 = (2 * l.val + 1) % 128 := by
    pointwise
    rw [lV_apply]
    exact lane_odd l
  unfold deiO
  pointwise
  rw [lV_apply, lane_lt64]
  rw [rgat_apply b0 _ r l ⟨(2 * l.val + 1) % 128, by omega⟩ hi.symm, rgat_apply b1 _ r l ⟨(2 * l.val + 1) % 128, by omega⟩ hi.symm]
  split <;> rfl

/-- Lanes of two vectors taken alternately, first half. -/
def itl0 (c0 c1 : FVec Ideal S16x128 .f32) : FVec Ideal S16x128 .f32 :=
  select (cmpi .eq (andi lV (broadcast S16x128 1#32)) (broadcast S16x128 0#32))
    (rgat c0 (shrsi lV (broadcast S16x128 1#32))) (rgat c1 (shrsi lV (broadcast S16x128 1#32)))

/-- Lanes of two vectors taken alternately, second half. -/
def itl1 (c0 c1 : FVec Ideal S16x128 .f32) : FVec Ideal S16x128 .f32 :=
  select (cmpi .eq (andi lV (broadcast S16x128 1#32)) (broadcast S16x128 0#32))
    (rgat c0 (addi (shrsi lV (broadcast S16x128 1#32)) (broadcast S16x128 64#32))) (rgat c1 (addi (shrsi lV (broadcast S16x128 1#32)) (broadcast S16x128 64#32)))

theorem lane_par : ∀ l : Fin 128, IntOp.cmpi .eq (IntOp.andi (BitVec.ofNat 32 l.val) 1#32) 0#32 = if l.val % 2 = 0 then 1#1 else 0#1 := by decide +kernel

theorem lane_half : ∀ l : Fin 128, (IntOp.shrsi .vector (BitVec.ofNat 32 l.val) 1#32).toNat % 128 = l.val / 2 := by decide +kernel

theorem lane_half1 : ∀ l : Fin 128, (IntOp.addi (IntOp.shrsi .vector (BitVec.ofNat 32 l.val) 1#32) 64#32).toNat % 128 = l.val / 2 + 64 := by decide +kernel

theorem itl0_apply (c0 c1 : FVec Ideal S16x128 .f32) (r : Fin 16) (l : Fin 128) :
    itl0 c0 c1 (ix2 r l) = if l.val % 2 = 0 then c0 (ix2 r ⟨l.val / 2, by omega⟩) else c1 (ix2 r ⟨l.val / 2, by omega⟩) := by
  have hi : (shrsi lV (broadcast S16x128 1#32) (ix2 r l) : BitVec 32).toNat % 128 = l.val / 2 := by
    pointwise
    rw [lV_apply]
    exact lane_half l
  unfold itl0
  pointwise
  rw [lV_apply, lane_par]
  rw [rgat_apply c0 _ r l ⟨l.val / 2, by omega⟩ hi.symm, rgat_apply c1 _ r l ⟨l.val / 2, by omega⟩ hi.symm]
  split <;> rfl

theorem itl1_apply (c0 c1 : FVec Ideal S16x128 .f32) (r : Fin 16) (l : Fin 128) :
    itl1 c0 c1 (ix2 r l) = if l.val % 2 = 0 then c0 (ix2 r ⟨l.val / 2 + 64, by omega⟩) else c1 (ix2 r ⟨l.val / 2 + 64, by omega⟩) := by
  have hi : (addi (shrsi lV (broadcast S16x128 1#32)) (broadcast S16x128 64#32) (ix2 r l) : BitVec 32).toNat % 128 = l.val / 2 + 64 := by
    pointwise
    rw [lV_apply]
    exact lane_half1 l
  unfold itl1
  pointwise
  rw [lV_apply, lane_par]
  rw [rgat_apply c0 _ r l ⟨l.val / 2 + 64, by omega⟩ hi.symm, rgat_apply c1 _ r l ⟨l.val / 2 + 64, by omega⟩ hi.symm]
  split <;> rfl

end Cert.KernelIdeal.Val

end
-- ==== Proof.Group.lean ====
/- One group of 256 output columns: the sum over its chunks, the low-rank term, and where each element is written. -/
module

public import proofs.«01_k».proof.Proof.IdealTrip
public import proofs.«01_k».proof.Proof.ChunkVal
public import proofs.«01_k».proof.Proof.Scale
public import proofs.«01_k».proof.Proof.Lanes
public import Idealize.ShloMosaic.Lib.WritesUnit

@[expose] public section

set_option maxRecDepth 16384

noncomputable section

namespace Cert.KernelIdeal.Val

open Cert.KernelIdeal Cert.KernelIdeal.Gen
open Idealize.ShloMosaic Idealize.ShloMosaic.TcCoe

theorem st_apply (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec Ideal S32x128 .i8) (v4 : Vec Ideal S32x128 .i8) (v11 : Elt Ideal .f32) (k0_t2 : Fin k0_t2_loop.trips) (v16 : BitVec 32) (v18 : BitVec 32) (v21 : BitVec 32) (v208 : IVec S44x128 32) (v210 : IVec S44x128 1) (v212 : FVec Ideal S44x128 .f32) (v213 : FVec Ideal S1x128 .f32) (mv_v448 : Memref sig .tc .vmem S2x2x44x2x128 .bf16) (hcanon_v448 : (arg13.slice (Rect.unit (s := S4x2x2x44x2x128) (k0_off13 k0_t2) S1x2x2x44x2x128.size (k0_off13_inb k0_t2)) (fun _ => rfl)).squeeze S2x2x44x2x128 squeezes_S1x2x2x44x2x128_S2x2x44x2x128 = mv_v448) (X_arg2 : BufTy.Contents (Elt Ideal) arg2.view.ty) (X_arg11 : BufTy.Contents (Elt Ideal) arg11.view.ty) (X_v448 : BufTy.Contents (Elt Ideal) mv_v448.view.ty)  (init : FVec Ideal S64x256 .f32) (m : Fin 64) (pn : Fin 2) (n : Fin 128) (ht : k0_t2.val < 4) : ∀ j : ℕ, j ≤ 22 →
    st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 (k0_pay7) v11 k0_t2 v16 v18 v21 v208 v210 v212 v213 mv_v448 hcanon_v448 X_arg2 X_arg11 X_v448 init j (ix2 m ⟨128 * pn.val + n.val, by omega⟩)
      = init (ix2 m ⟨128 * pn.val + n.val, by omega⟩)
        + ∑ z ∈ Finset.range j, (if h : z < 22 then chunkSum (fun m j => arg11.view.read (Elt Ideal) X_arg11 (ix2 m j)) v3 v4 (fun r j => arg2.view.read (Elt Ideal) X_arg2 (ix2 r j))
          (fun p q b e l => mv_v448.view.read (Elt Ideal) X_v448 (ix5 p q b e l)) k0_t2.val ht z h m pn n else 0) := by
  intro j
  induction j with
  | zero =>
    intro _
    rw [Finset.sum_range_zero, add_zero]
    rfl
  | succ j ih =>
    intro hj
    have hj' : j < k0_t3_loop.trips := by
      show j < 22
      omega
    rw [Finset.sum_range_succ, ← add_assoc, ← ih (by omega), dif_pos (show j < 22 by omega)]
    refine (congrFun (st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 (k0_pay7) v11 k0_t2 v16 v18 v21 v208 v210 v212 v213 mv_v448 hcanon_v448 X_arg2 X_arg11 X_v448 init ⟨j, hj'⟩) _).trans ?_
    exact trip_apply 𝒱 c bd i arg1 harg1 arg2 harg2 arg3 harg3 arg4 harg4 arg5 harg5 arg6 harg6 arg7 harg7 arg8 harg8 arg9 harg9 arg10 harg10 arg11 harg11 arg12 harg12 arg13 harg13 v3 v4 v11 k0_t2 v16 v18 v21 v208 v210 v212 v213 mv_v448 hcanon_v448 X_arg2 X_arg11 X_v448 ⟨j, hj'⟩ _ m pn n ht (by show j < 22; omega)

/-- The output block of a group before it is put in column order. -/
def outV (v10 : Vec Ideal S64x16 .bf16) (acc : FVec Ideal S64x256 .f32) (b0 b1 : Vec Ideal S16x128 .bf16) : FVec Ideal S64x256 .bf16 :=
  k0_pay189 (F := Ideal) v10 acc (k0_pay184 b0) (k0_pay185 b1) k0_pay186 k0_pay187 (k0_pay188 b0 b1)

/-- The low-rank factor's columns, even ones first. -/
def lbV (b0 b1 : Vec Ideal S16x128 .bf16) : FVec Ideal S16x256 .bf16 :=
  concatenate S16x256 1 [⟨S16x128, (truncf .bf16 (deiE (k0_pay184 (F := Ideal) b0) (k0_pay185 (F := Ideal) b1)) bitsLt_bf16_f32 : FVec Ideal S16x128 .bf16)⟩,
    ⟨S16x128, (truncf .bf16 (deiO (k0_pay184 (F := Ideal) b0) (k0_pay185 (F := Ideal) b1)) bitsLt_bf16_f32 : FVec Ideal S16x128 .bf16)⟩] concatenates_S16x128_S16x128_S16x256_d1

theorem outV_eq (v10 : Vec Ideal S64x16 .bf16) (acc : FVec Ideal S64x256 .f32) (b0 b1 : Vec Ideal S16x128 .bf16) :
    outV v10 acc b0 b1 = truncf .bf16 (addf acc (mulf (broadcast S64x256 (Scalar.ofBits (F := Ideal) .f32 0x40000000#32))
      (matmul (φ₁ := .bf16) (φ₂ := .bf16) dot_S64x16_S16x256_S64x256_1_0_0_1_n_n none v10 (lbV b0 b1) (constant S64x256 .f32 0x00000000#32)))) bitsLt_bf16_f32 := rfl

theorem lbV_apply (b0 b1 : Vec Ideal S16x128 .bf16) (j : Fin 16) (pn : Fin 2) (n : Fin 128) :
    lbV b0 b1 (ix2 j ⟨128 * pn.val + n.val, by omega⟩)
      = if n.val < 64 then b0 (ix2 j ⟨(2 * n.val + pn.val) % 128, by omega⟩) else b1 (ix2 j ⟨(2 * n.val + pn.val) % 128, by omega⟩) := by
  have hn := n.isLt
  unfold lbV
  pointwise
  have h2 : ∀ x : Fin 2, x = 0 ∨ x = 1 := by decide
  rcases h2 pn with rfl | rfl
  · rw [dif_pos (by show 128 * 0 + n.val < 128; omega)]
    have e : (⟨128 * (0 : Fin 2).val + n.val, by show 128 * 0 + n.val < 128; omega⟩ : Fin 128) = n := Fin.ext (by show 128 * 0 + n.val = n.val; omega)
    refine Eq.trans (congrArg (fun q => deiE (k0_pay184 (F := Ideal) b0) (k0_pay185 (F := Ideal) b1) (ix2 j q)) e) ?_
    rw [deiE_apply]
    rfl
  · rw [dif_neg (by show ¬ 128 * 1 + n.val < 128; omega)]
    try rw [dif_pos (by show 128 * 1 + n.val < 256; omega)]
    have e : (⟨128 * (1 : Fin 2).val + n.val - 128, by show 128 * 1 + n.val - 128 < 128; omega⟩ : Fin 128) = n := Fin.ext (by show 128 * 1 + n.val - 128 = n.val; omega)
    refine Eq.trans (congrArg (fun q => deiO (k0_pay184 (F := Ideal) b0) (k0_pay185 (F := Ideal) b1) (ix2 j q)) e) ?_
    rw [deiO_apply]
    rfl

theorem outV_apply (v10 : Vec Ideal S64x16 .bf16) (acc : FVec Ideal S64x256 .f32) (b0 b1 : Vec Ideal S16x128 .bf16) (m : Fin 64) (pn : Fin 2) (n : Fin 128) :
    outV v10 acc b0 b1 (ix2 m ⟨128 * pn.val + n.val, by omega⟩)
      = acc (ix2 m ⟨128 * pn.val + n.val, by omega⟩) + Ideal.ofBits .f32 0x40000000#32 * ∑ j : Fin 16, v10 (ix2 m j)
          * (if n.val < 64 then b0 (ix2 j ⟨(2 * n.val + pn.val) % 128, by omega⟩) else b1 (ix2 j ⟨(2 * n.val + pn.val) % 128, by omega⟩)) := by
  rw [outV_eq]
  pointwise
  refine congrArg (acc _ + ·) (congrArg (_ * ·) (Finset.sum_congr rfl fun j _ => ?_))
  exact congrArg (_ * ·) (lbV_apply b0 b1 j pn n)

/-- The eight tiles a group's block is stored in. -/
def tileV (z : FVec Ideal S64x256 .bf16) (i : Fin 4) (h : Fin 2) : FVec Ideal S16x128 .bf16 :=
  fun x => z (ix2 ⟨16 * i.val + (x 0).val, by have := (x 0).isLt; have h16 : S16x128.size 0 = 16 := rfl; omega⟩
    ⟨128 * ((x 1).val % 2) + ((x 1).val / 2 + 64 * h.val), by have := (x 1).isLt; have h16 : S16x128.size 1 = 128 := rfl; omega⟩)

theorem ext2 {r n : ℕ} {α : Type} (f g : (⟨2, ![r, n]⟩ : Shape).Idx → α) (h : ∀ a b, f (ix2 a b) = g (ix2 a b)) : f = g := by
  funext x
  have e : x = ix2 (x 0) (x 1) := by
    funext a
    match a with
    | ⟨0, _⟩ => rfl
    | ⟨1, _⟩ => rfl
  rw [e]
  exact h _ _

theorem slice_tile (z : FVec Ideal S64x256 .bf16) (i : ℕ) (hi : i < 4) (c : ℕ) (hc : c < 2) (h) (r : Fin 16) (n : Fin 128) :
    (extf .f32 (extractStridedSlice S16x128 ![16 * i, 128 * c] z h : FVec Ideal S16x128 .bf16) bitsLt_bf16_f32 : FVec Ideal S16x128 .f32) (ix2 r n)
      = z (ix2 ⟨16 * i + r.val, by omega⟩ ⟨128 * c + n.val, by omega⟩) := by
  pointwise

theorem tile_00 (z : FVec Ideal S64x256 .bf16) :
    (truncf .bf16 (itl0 (extf .f32 (extractStridedSlice S16x128 ![16 * 0, 128 * 0] z slices_S64x256_o0_0_S16x128 : FVec Ideal S16x128 .bf16) bitsLt_bf16_f32) (extf .f32 (extractStridedSlice S16x128 ![16 * 0, 128 * 1] z slices_S64x256_o0_128_S16x128 : FVec Ideal S16x128 .bf16) bitsLt_bf16_f32)) bitsLt_bf16_f32 : FVec Ideal S16x128 .bf16) = tileV z 0 0 := by
  refine ext2 _ _ fun r l => ?_
  refine (itl0_apply _ _ r l).trans ?_
  by_cases hl : l.val % 2 = 0
  · rw [if_pos hl]
    refine (slice_tile z 0 (by decide) 0 (by decide) _ r _).trans ?_
    exact congrArg z (congrArg₂ ix2 (Fin.ext rfl) (Fin.ext (by show 128 * 0 + _ = 128 * (l.val % 2) + (l.val / 2 + 64 * 0); dsimp only []; omega)))
  · rw [if_neg hl]
    refine (slice_tile z 0 (by decide) 1 (by decide) _ r _).trans ?_
    exact congrArg z (congrArg₂ ix2 (Fin.ext rfl) (Fin.ext (by show 128 * 1 + _ = 128 * (l.val % 2) + (l.val / 2 + 64 * 0); dsimp only []; omega)))

theorem tile_01 (z : FVec Ideal S64x256 .bf16) :
    (truncf .bf16 (itl1 (extf .f32 (extractStridedSlice S16x128 ![16 * 0, 128 * 0] z slices_S64x256_o0_0_S16x128 : FVec Ideal S16x128 .bf16) bitsLt_bf16_f32) (extf .f32 (extractStridedSlice S16x128 ![16 * 0, 128 * 1] z slices_S64x256_o0_128_S16x128 : FVec Ideal S16x128 .bf16) bitsLt_bf16_f32)) bitsLt_bf16_f32 : FVec Ideal S16x128 .bf16) = tileV z 0 1 := by
  refine ext2 _ _ fun r l => ?_
  refine (itl1_apply _ _ r l).trans ?_
  by_cases hl : l.val % 2 = 0
  · rw [if_pos hl]
    refine (slice_tile z 0 (by decide) 0 (by decide) _ r _).trans ?_
    exact congrArg z (congrArg₂ ix2 (Fin.ext rfl) (Fin.ext (by show 128 * 0 + _ = 128 * (l.val % 2) + (l.val / 2 + 64 * 1); dsimp only []; omega)))
  · rw [if_neg hl]
    refine (slice_tile z 0 (by decide) 1 (by decide) _ r _).trans ?_
    exact congrArg z (congrArg₂ ix2 (Fin.ext rfl) (Fin.ext (by show 128 * 1 + _ = 128 * (l.val % 2) + (l.val / 2 + 64 * 1); dsimp only []; omega)))

theorem tile_10 (z : FVec Ideal S64x256 .bf16) :
    (truncf .bf16 (itl0 (extf .f32 (extractStridedSlice S16x128 ![16 * 1, 128 * 0] z slices_S64x256_o16_0_S16x128 : FVec Ideal S16x128 .bf16) bitsLt_bf16_f32) (extf .f32 (extractStridedSlice S16x128 ![16 * 1, 128 * 1] z slices_S64x256_o16_128_S16x128 : FVec Ideal S16x128 .bf16) bitsLt_bf16_f32)) bitsLt_bf16_f32 : FVec Ideal S16x128 .bf16) = tileV z 1 0 := by
  refine ext2 _ _ fun r l => ?_
  refine (itl0_apply _ _ r l).trans ?_
  by_cases hl : l.val % 2 = 0
  · rw [if_pos hl]
    refine (slice_tile z 1 (by decide) 0 (by decide) _ r _).trans ?_
    exact congrArg z (congrArg₂ ix2 (Fin.ext rfl) (Fin.ext (by show 128 * 0 + _ = 128 * (l.val % 2) + (l.val / 2 + 64 * 0); dsimp only []; omega)))
  · rw [if_neg hl]
    refine (slice_tile z 1 (by decide) 1 (by decide) _ r _).trans ?_
    exact congrArg z (congrArg₂ ix2 (Fin.ext rfl) (Fin.ext (by show 128 * 1 + _ = 128 * (l.val % 2) + (l.val / 2 + 64 * 0); dsimp only []; omega)))

theorem tile_11 (z : FVec Ideal S64x256 .bf16) :
    (truncf .bf16 (itl1 (extf .f32 (extractStridedSlice S16x128 ![16 * 1, 128 * 0] z slices_S64x256_o16_0_S16x128 : FVec Ideal S16x128 .bf16) bitsLt_bf16_f32) (extf .f32 (extractStridedSlice S16x128 ![16 * 1, 128 * 1] z slices_S64x256_o16_128_S16x128 : FVec Ideal S16x128 .bf16) bitsLt_bf16_f32)) bitsLt_bf16_f32 : FVec Ideal S16x128 .bf16) = tileV z 1 1 := by
  refine ext2 _ _ fun r l => ?_
  refine (itl1_apply _ _ r l).trans ?_
  by_cases hl : l.val % 2 = 0
  · rw [if_pos hl]
    refine (slice_tile z 1 (by decide) 0 (by decide) _ r _).trans ?_
    exact congrArg z (congrArg₂ ix2 (Fin.ext rfl) (Fin.ext (by show 128 * 0 + _ = 128 * (l.val % 2) + (l.val / 2 + 64 * 1); dsimp only []; omega)))
  · rw [if_neg hl]
    refine (slice_tile z 1 (by decide) 1 (by decide) _ r _).trans ?_
    exact congrArg z (congrArg₂ ix2 (Fin.ext rfl) (Fin.ext (by show 128 * 1 + _ = 128 * (l.val % 2) + (l.val / 2 + 64 * 1); dsimp only []; omega)))

theorem tile_20 (z : FVec Ideal S64x256 .bf16) :
    (truncf .bf16 (itl0 (extf .f32 (extractStridedSlice S16x128 ![16 * 2, 128 * 0] z slices_S64x256_o32_0_S16x128 : FVec Ideal S16x128 .bf16) bitsLt_bf16_f32) (extf .f32 (extractStridedSlice S16x128 ![16 * 2, 128 * 1] z slices_S64x256_o32_128_S16x128 : FVec Ideal S16x128 .bf16) bitsLt_bf16_f32)) bitsLt_bf16_f32 : FVec Ideal S16x128 .bf16) = tileV z 2 0 := by
  refine ext2 _ _ fun r l => ?_
  refine (itl0_apply _ _ r l).trans ?_
  by_cases hl : l.val % 2 = 0
  · rw [if_pos hl]
    refine (slice_tile z 2 (by decide) 0 (by decide) _ r _).trans ?_
    exact congrArg z (congrArg₂ ix2 (Fin.ext rfl) (Fin.ext (by show 128 * 0 + _ = 128 * (l.val % 2) + (l.val / 2 + 64 * 0); dsimp only []; omega)))
  · rw [if_neg hl]
    refine (slice_tile z 2 (by decide) 1 (by decide) _ r _).trans ?_
    exact congrArg z (congrArg₂ ix2 (Fin.ext rfl) (Fin.ext (by show 128 * 1 + _ = 128 * (l.val % 2) + (l.val / 2 + 64 * 0); dsimp only []; omega)))

theorem tile_21 (z : FVec Ideal S64x256 .bf16) :
    (truncf .bf16 (itl1 (extf .f32 (extractStridedSlice S16x128 ![16 * 2, 128 * 0] z slices_S64x256_o32_0_S16x128 : FVec Ideal S16x128 .bf16) bitsLt_bf16_f32) (extf .f32 (extractStridedSlice S16x128 ![16 * 2, 128 * 1] z slices_S64x256_o32_128_S16x128 : FVec Ideal S16x128 .bf16) bitsLt_bf16_f32)) bitsLt_bf16_f32 : FVec Ideal S16x128 .bf16) = tileV z 2 1 := by
  refine ext2 _ _ fun r l => ?_
  refine (itl1_apply _ _ r l).trans ?_
  by_cases hl : l.val % 2 = 0
  · rw [if_pos hl]
    refine (slice_tile z 2 (by decide) 0 (by decide) _ r _).trans ?_
    exact congrArg z (congrArg₂ ix2 (Fin.ext rfl) (Fin.ext (by show 128 * 0 + _ = 128 * (l.val % 2) + (l.val / 2 + 64 * 1); dsimp only []; omega)))
  · rw [if_neg hl]
    refine (slice_tile z 2 (by decide) 1 (by decide) _ r _).trans ?_
    exact congrArg z (congrArg₂ ix2 (Fin.ext rfl) (Fin.ext (by show 128 * 1 + _ = 128 * (l.val % 2) + (l.val / 2 + 64 * 1); dsimp only []; omega)))

theorem tile_30 (z : FVec Ideal S64x256 .bf16) :
    (truncf .bf16 (itl0 (extf .f32 (extractStridedSlice S16x128 ![16 * 3, 128 * 0] z slices_S64x256_o48_0_S16x128 : FVec Ideal S16x128 .bf16) bitsLt_bf16_f32) (extf .f32 (extractStridedSlice S16x128 ![16 * 3, 128 * 1] z slices_S64x256_o48_128_S16x128 : FVec Ideal S16x128 .bf16) bitsLt_bf16_f32)) bitsLt_bf16_f32 : FVec Ideal S16x128 .bf16) = tileV z 3 0 := by
  refine ext2 _ _ fun r l => ?_
  refine (itl0_apply _ _ r l).trans ?_
  by_cases hl : l.val % 2 = 0
  · rw [if_pos hl]
    refine (slice_tile z 3 (by decide) 0 (by decide) _ r _).trans ?_
    exact congrArg z (congrArg₂ ix2 (Fin.ext rfl) (Fin.ext (by show 128 * 0 + _ = 128 * (l.val % 2) + (l.val / 2 + 64 * 0); dsimp only []; omega)))
  · rw [if_neg hl]
    refine (slice_tile z 3 (by decide) 1 (by decide) _ r _).trans ?_
    exact congrArg z (congrArg₂ ix2 (Fin.ext rfl) (Fin.ext (by show 128 * 1 + _ = 128 * (l.val % 2) + (l.val / 2 + 64 * 0); dsimp only []; omega)))

theorem tile_31 (z : FVec Ideal S64x256 .bf16) :
    (truncf .bf16 (itl1 (extf .f32 (extractStridedSlice S16x128 ![16 * 3, 128 * 0] z slices_S64x256_o48_0_S16x128 : FVec Ideal S16x128 .bf16) bitsLt_bf16_f32) (extf .f32 (extractStridedSlice S16x128 ![16 * 3, 128 * 1] z slices_S64x256_o48_128_S16x128 : FVec Ideal S16x128 .bf16) bitsLt_bf16_f32)) bitsLt_bf16_f32 : FVec Ideal S16x128 .bf16) = tileV z 3 1 := by
  refine ext2 _ _ fun r l => ?_
  refine (itl1_apply _ _ r l).trans ?_
  by_cases hl : l.val % 2 = 0
  · rw [if_pos hl]
    refine (slice_tile z 3 (by decide) 0 (by decide) _ r _).trans ?_
    exact congrArg z (congrArg₂ ix2 (Fin.ext rfl) (Fin.ext (by show 128 * 0 + _ = 128 * (l.val % 2) + (l.val / 2 + 64 * 1); dsimp only []; omega)))
  · rw [if_neg hl]
    refine (slice_tile z 3 (by decide) 1 (by decide) _ r _).trans ?_
    exact congrArg z (congrArg₂ ix2 (Fin.ext rfl) (Fin.ext (by show 128 * 1 + _ = 128 * (l.val % 2) + (l.val / 2 + 64 * 1); dsimp only []; omega)))

theorem off21 : ∀ (k : Fin k0_t2_loop.trips), k0_off21 k = ![0, 256 * k.val + 0] := by decide
theorem off22 : ∀ (k : Fin k0_t2_loop.trips), k0_off22 k = ![0, 256 * k.val + 128] := by decide
theorem off23 : ∀ (k : Fin k0_t2_loop.trips), k0_off23 k = ![16, 256 * k.val + 0] := by decide
theorem off24 : ∀ (k : Fin k0_t2_loop.trips), k0_off24 k = ![16, 256 * k.val + 128] := by decide
theorem off25 : ∀ (k : Fin k0_t2_loop.trips), k0_off25 k = ![32, 256 * k.val + 0] := by decide
theorem off26 : ∀ (k : Fin k0_t2_loop.trips), k0_off26 k = ![32, 256 * k.val + 128] := by decide
theorem off27 : ∀ (k : Fin k0_t2_loop.trips), k0_off27 k = ![48, 256 * k.val + 0] := by decide
theorem off28 : ∀ (k : Fin k0_t2_loop.trips), k0_off28 k = ![48, 256 * k.val + 128] := by decide
theorem off9 : ∀ (k : Fin k0_t2_loop.trips), k0_off9 k = ![256 * k.val, 0] := by decide
theorem off10 : ∀ (k : Fin k0_t2_loop.trips), k0_off10 k = ![0, k.val, 0] := by decide
theorem off19 : ∀ (k : Fin k0_t2_loop.trips), k0_off19 k = ![0, 256 * k.val] := by decide
theorem off20 : ∀ (k : Fin k0_t2_loop.trips), k0_off20 k = ![0, 256 * k.val + 128] := by decide

/-- The stores of a group's block. -/
def tiles (k : Fin k0_t2_loop.trips) (z : Fin 4 → Fin 2 → FVec Ideal S16x128 .bf16) : List (View.Piece (Elt Ideal) S64x1024 .bf16) :=
  [⟨Rect.unit (s := S64x1024) (k0_off28 k) S16x128.size (k0_off28_inb k), z 3 1⟩,
   ⟨Rect.unit (s := S64x1024) (k0_off27 k) S16x128.size (k0_off27_inb k), z 3 0⟩,
   ⟨Rect.unit (s := S64x1024) (k0_off26 k) S16x128.size (k0_off26_inb k), z 2 1⟩,
   ⟨Rect.unit (s := S64x1024) (k0_off25 k) S16x128.size (k0_off25_inb k), z 2 0⟩,
   ⟨Rect.unit (s := S64x1024) (k0_off24 k) S16x128.size (k0_off24_inb k), z 1 1⟩,
   ⟨Rect.unit (s := S64x1024) (k0_off23 k) S16x128.size (k0_off23_inb k), z 1 0⟩,
   ⟨Rect.unit (s := S64x1024) (k0_off22 k) S16x128.size (k0_off22_inb k), z 0 1⟩,
   ⟨Rect.unit (s := S64x1024) (k0_off21 k) S16x128.size (k0_off21_inb k), z 0 0⟩]

theorem tiles_out (v : View sig .tc .vmem S64x1024 .bf16) (f : v.ty.Contents (Elt Ideal)) (k : Fin k0_t2_loop.trips) (z : Fin 4 → Fin 2 → FVec Ideal S16x128 .bf16)
    (m : Fin 64) (col : Fin 1024) (h : col.val < 256 * k.val ∨ 256 * k.val + 256 ≤ col.val) :
    v.read (Elt Ideal) (v.writes (Elt Ideal) f (tiles k z)) (ix2 m col) = v.read (Elt Ideal) f (ix2 m col) := by
  unfold tiles
  refine (View.read_writes_cons_unit_of_not_mem v f _ _ _ (ix2 m col) (off28 k) (1 : Fin 2) (by show col.val < 256 * k.val + 128 ∨ 256 * k.val + 128 + 128 ≤ col.val; omega)).trans ?_
  refine (View.read_writes_cons_unit_of_not_mem v f _ _ _ (ix2 m col) (off27 k) (1 : Fin 2) (by show col.val < 256 * k.val + 0 ∨ 256 * k.val + 0 + 128 ≤ col.val; omega)).trans ?_
  refine (View.read_writes_cons_unit_of_not_mem v f _ _ _ (ix2 m col) (off26 k) (1 : Fin 2) (by show col.val < 256 * k.val + 128 ∨ 256 * k.val + 128 + 128 ≤ col.val; omega)).trans ?_
  refine (View.read_writes_cons_unit_of_not_mem v f _ _ _ (ix2 m col) (off25 k) (1 : Fin 2) (by show col.val < 256 * k.val + 0 ∨ 256 * k.val + 0 + 128 ≤ col.val; omega)).trans ?_
  refine (View.read_writes_cons_unit_of_not_mem v f _ _ _ (ix2 m col) (off24 k) (1 : Fin 2) (by show col.val < 256 * k.val + 128 ∨ 256 * k.val + 128 + 128 ≤ col.val; omega)).trans ?_
  refine (View.read_writes_cons_unit_of_not_mem v f _ _ _ (ix2 m col) (off23 k) (1 : Fin 2) (by show col.val < 256 * k.val + 0 ∨ 256 * k.val + 0 + 128 ≤ col.val; omega)).trans ?_
  refine (View.read_writes_cons_unit_of_not_mem v f _ _ _ (ix2 m col) (off22 k) (1 : Fin 2) (by show col.val < 256 * k.val + 128 ∨ 256 * k.val + 128 + 128 ≤ col.val; omega)).trans ?_
  refine (View.read_writes_cons_unit_of_not_mem v f _ _ _ (ix2 m col) (off21 k) (1 : Fin 2) (by show col.val < 256 * k.val + 0 ∨ 256 * k.val + 0 + 128 ≤ col.val; omega)).trans ?_
  rfl

theorem tiles_in (v : View sig .tc .vmem S64x1024 .bf16) (f : v.ty.Contents (Elt Ideal)) (k : Fin k0_t2_loop.trips) (z : Fin 4 → Fin 2 → FVec Ideal S16x128 .bf16)
    (m : Fin 64) (col : Fin 1024) (q : Fin 256) (hc : col.val = 256 * k.val + q.val) :
    v.read (Elt Ideal) (v.writes (Elt Ideal) f (tiles k z)) (ix2 m col) = z ⟨m.val / 16, by omega⟩ ⟨q.val / 128, by omega⟩ (ix2 ⟨m.val % 16, by omega⟩ ⟨q.val % 128, by omega⟩) := by
  have hm := m.isLt
  have hq := q.isLt
  unfold tiles
  have hcase : (m.val / 16 = 0 ∨ m.val / 16 = 1 ∨ m.val / 16 = 2 ∨ m.val / 16 = 3) ∧ (q.val / 128 = 0 ∨ q.val / 128 = 1) := by omega
  obtain ⟨hi | hi | hi | hi, hh | hh⟩ := hcase
  · refine (View.read_writes_cons_unit_of_not_mem v f _ _ _ (ix2 m col) (off28 k) (0 : Fin 2) (by show m.val < 48 ∨ 48 + 16 ≤ m.val; omega)).trans ?_
    refine (View.read_writes_cons_unit_of_not_mem v f _ _ _ (ix2 m col) (off27 k) (0 : Fin 2) (by show m.val < 48 ∨ 48 + 16 ≤ m.val; omega)).trans ?_
    refine (View.read_writes_cons_unit_of_not_mem v f _ _ _ (ix2 m col) (off26 k) (0 : Fin 2) (by show m.val < 32 ∨ 32 + 16 ≤ m.val; omega)).trans ?_
    refine (View.read_writes_cons_unit_of_not_mem v f _ _ _ (ix2 m col) (off25 k) (0 : Fin 2) (by show m.val < 32 ∨ 32 + 16 ≤ m.val; omega)).trans ?_
    refine (View.read_writes_cons_unit_of_not_mem v f _ _ _ (ix2 m col) (off24 k) (0 : Fin 2) (by show m.val < 16 ∨ 16 + 16 ≤ m.val; omega)).trans ?_
    refine (View.read_writes_cons_unit_of_not_mem v f _ _ _ (ix2 m col) (off23 k) (0 : Fin 2) (by show m.val < 16 ∨ 16 + 16 ≤ m.val; omega)).trans ?_
    refine (View.read_writes_cons_unit_of_not_mem v f _ _ _ (ix2 m col) (off22 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off21 k) (by
      intro a
      match a with
      | ⟨0, _⟩ => show m.val = 0 + m.val % 16; omega
      | ⟨1, _⟩ => show col.val = 256 * k.val + 0 + q.val % 128; omega)).trans ?_
    exact congrArg₂ (fun a b => z a b (ix2 ⟨m.val % 16, by omega⟩ ⟨q.val % 128, by omega⟩)) (Fin.ext (by show 0 = m.val / 16; omega)) (Fin.ext (by show 0 = q.val / 128; omega))
  · refine (View.read_writes_cons_unit_of_not_mem v f _ _ _ (ix2 m col) (off28 k) (0 : Fin 2) (by show m.val < 48 ∨ 48 + 16 ≤ m.val; omega)).trans ?_
    refine (View.read_writes_cons_unit_of_not_mem v f _ _ _ (ix2 m col) (off27 k) (0 : Fin 2) (by show m.val < 48 ∨ 48 + 16 ≤ m.val; omega)).trans ?_
    refine (View.read_writes_cons_unit_of_not_mem v f _ _ _ (ix2 m col) (off26 k) (0 : Fin 2) (by show m.val < 32 ∨ 32 + 16 ≤ m.val; omega)).trans ?_
    refine (View.read_writes_cons_unit_of_not_mem v f _ _ _ (ix2 m col) (off25 k) (0 : Fin 2) (by show m.val < 32 ∨ 32 + 16 ≤ m.val; omega)).trans ?_
    refine (View.read_writes_cons_unit_of_not_mem v f _ _ _ (ix2 m col) (off24 k) (0 : Fin 2) (by show m.val < 16 ∨ 16 + 16 ≤ m.val; omega)).trans ?_
    refine (View.read_writes_cons_unit_of_not_mem v f _ _ _ (ix2 m col) (off23 k) (0 : Fin 2) (by show m.val < 16 ∨ 16 + 16 ≤ m.val; omega)).trans ?_
    refine (View.read_writes_cons_unit_of_mem v f _ _ _ (ix2 m col) (ix2 ⟨m.val % 16, by omega⟩ ⟨q.val % 128, by omega⟩) (off22 k) (by
      intro a
      match a with
      | ⟨0, _⟩ => show m.val = 0 + m.val % 16; omega
      | ⟨1, _⟩ => show col.val = 256 * k.val + 128 + q.val % 128; omega)).trans ?_
    exact congrArg₂ (fun a b => z a b (ix2 ⟨m.val % 16, by omega⟩ ⟨q.val % 128, by omega⟩)) (Fin.ext (by show 0 = m.val / 16; omega)) (Fin.ext (by show 1 = q.val / 128; omega))
  · refine (View.read_writes_cons_unit_of_not_mem v f _ _ _ (ix2 m col) (off28 k) (0 : Fin 2) (by show m.val < 48 ∨ 48 + 16 ≤ m.val; omega)).trans ?_
    refine (View.read_writes_cons_unit_of_not_mem v f _ _ _ (ix2 m col) (off27 k) (0 : Fin 2) (by show m.val < 48 ∨ 48 + 16 ≤ m.val; omega)).trans ?_
    refine (View.read_writes_cons_unit_of_not_mem v f _ _ _ (ix2 m col) (off26 k) (0 : Fin 2) (by show m.val < 32 ∨ 32 + 16 ≤ m.val; omega)).trans ?_
    refine (View.read_writes_cons_unit_of_not_mem v f _ _ _ (ix2 m col) (off25 k) (0 : Fin 2) (by show m.val < 32 ∨ 32 + 16 ≤ m.val; omega)).trans ?_
    refine (View.read_writes_cons_unit_of_not_mem v f _ _ _ (ix2 m col) (off24 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off23 k) (by
      intro a
      match a with
      | ⟨0, _⟩ => show m.val = 16 + m.val % 16; omega
      | ⟨1, _⟩ => show col.val = 256 * k.val + 0 + q.val % 128; omega)).trans ?_
    exact congrArg₂ (fun a b => z a b (ix2 ⟨m.val % 16, by omega⟩ ⟨q.val % 128, by omega⟩)) (Fin.ext (by show 1 = m.val / 16; omega)) (Fin.ext (by show 0 = q.val / 128; omega))
  · refine (View.read_writes_cons_unit_of_not_mem v f _ _ _ (ix2 m col) (off28 k) (0 : Fin 2) (by show m.val < 48 ∨ 48 + 16 ≤ m.val; omega)).trans ?_
    refine (View.read_writes_cons_unit_of_not_mem v f _ _ _ (ix2 m col) (off27 k) (0 : Fin 2) (by show m.val < 48 ∨ 48 + 16 ≤ m.val; omega)).trans ?_
    refine (View.read_writes_cons_unit_of_not_mem v f _ _ _ (ix2 m col) (off26 k) (0 : Fin 2) (by show m.val < 32 ∨ 32 + 16 ≤ m.val; omega)).trans ?_
    refine (View.read_writes_cons_unit_of_not_mem v f _ _ _ (ix2 m col) (off25 k) (0 : Fin 2) (by show m.val < 32 ∨ 32 + 16 ≤ m.val; omega)).trans ?_
    refine (View.read_writes_cons_unit_of_mem v f _ _ _ (ix2 m col) (ix2 ⟨m.val % 16, by omega⟩ ⟨q.val % 128, by omega⟩) (off24 k) (by
      intro a
      match a with
      | ⟨0, _⟩ => show m.val = 16 + m.val % 16; omega
      | ⟨1, _⟩ => show col.val = 256 * k.val + 128 + q.val % 128; omega)).trans ?_
    exact congrArg₂ (fun a b => z a b (ix2 ⟨m.val % 16, by omega⟩ ⟨q.val % 128, by omega⟩)) (Fin.ext (by show 1 = m.val / 16; omega)) (Fin.ext (by show 1 = q.val / 128; omega))
  · refine (View.read_writes_cons_unit_of_not_mem v f _ _ _ (ix2 m col) (off28 k) (0 : Fin 2) (by show m.val < 48 ∨ 48 + 16 ≤ m.val; omega)).trans ?_
    refine (View.read_writes_cons_unit_of_not_mem v f _ _ _ (ix2 m col) (off27 k) (0 : Fin 2) (by show m.val < 48 ∨ 48 + 16 ≤ m.val; omega)).trans ?_
    refine (View.read_writes_cons_unit_of_not_mem v f _ _ _ (ix2 m col) (off26 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off25 k) (by
      intro a
      match a with
      | ⟨0, _⟩ => show m.val = 32 + m.val % 16; omega
      | ⟨1, _⟩ => show col.val = 256 * k.val + 0 + q.val % 128; omega)).trans ?_
    exact congrArg₂ (fun a b => z a b (ix2 ⟨m.val % 16, by omega⟩ ⟨q.val % 128, by omega⟩)) (Fin.ext (by show 2 = m.val / 16; omega)) (Fin.ext (by show 0 = q.val / 128; omega))
  · refine (View.read_writes_cons_unit_of_not_mem v f _ _ _ (ix2 m col) (off28 k) (0 : Fin 2) (by show m.val < 48 ∨ 48 + 16 ≤ m.val; omega)).trans ?_
    refine (View.read_writes_cons_unit_of_not_mem v f _ _ _ (ix2 m col) (off27 k) (0 : Fin 2) (by show m.val < 48 ∨ 48 + 16 ≤ m.val; omega)).trans ?_
    refine (View.read_writes_cons_unit_of_mem v f _ _ _ (ix2 m col) (ix2 ⟨m.val % 16, by omega⟩ ⟨q.val % 128, by omega⟩) (off26 k) (by
      intro a
      match a with
      | ⟨0, _⟩ => show m.val = 32 + m.val % 16; omega
      | ⟨1, _⟩ => show col.val = 256 * k.val + 128 + q.val % 128; omega)).trans ?_
    exact congrArg₂ (fun a b => z a b (ix2 ⟨m.val % 16, by omega⟩ ⟨q.val % 128, by omega⟩)) (Fin.ext (by show 2 = m.val / 16; omega)) (Fin.ext (by show 1 = q.val / 128; omega))
  · refine (View.read_writes_cons_unit_of_not_mem v f _ _ _ (ix2 m col) (off28 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off27 k) (by
      intro a
      match a with
      | ⟨0, _⟩ => show m.val = 48 + m.val % 16; omega
      | ⟨1, _⟩ => show col.val = 256 * k.val + 0 + q.val % 128; omega)).trans ?_
    exact congrArg₂ (fun a b => z a b (ix2 ⟨m.val % 16, by omega⟩ ⟨q.val % 128, by omega⟩)) (Fin.ext (by show 3 = m.val / 16; omega)) (Fin.ext (by show 0 = q.val / 128; omega))
  · refine (View.read_writes_cons_unit_of_mem v f _ _ _ (ix2 m col) (ix2 ⟨m.val % 16, by omega⟩ ⟨q.val % 128, by omega⟩) (off28 k) (by
      intro a
      match a with
      | ⟨0, _⟩ => show m.val = 48 + m.val % 16; omega
      | ⟨1, _⟩ => show col.val = 256 * k.val + 128 + q.val % 128; omega)).trans ?_
    exact congrArg₂ (fun a b => z a b (ix2 ⟨m.val % 16, by omega⟩ ⟨q.val % 128, by omega⟩)) (Fin.ext (by show 3 = m.val / 16; omega)) (Fin.ext (by show 1 = q.val / 128; omega))

/-- The stores of a group's scales. -/
def scales (v11 : Elt Ideal .f32) (v26 : FVec Ideal S1x128 .f32) (v23 : Vec Ideal S256x88 .i8) : List (View.Piece (Elt Ideal) S2x2x44x2x128 .bf16) :=
  [⟨Rect.unit ![1, 1, 0, 0, 0] S1x1x44x2x128.size inb_S2x2x44x2x128_S1x1x44x2x128_1_1_0_0_0, sblk v11 v26 (codeV v23 0#32) 1#32 1#32⟩,
   ⟨Rect.unit ![1, 0, 0, 0, 0] S1x1x44x2x128.size inb_S2x2x44x2x128_S1x1x44x2x128_1_0_0_0_0, sblk v11 v26 (codeV v23 16#32) 1#32 0#32⟩,
   ⟨Rect.unit ![0, 1, 0, 0, 0] S1x1x44x2x128.size inb_S2x2x44x2x128_S1x1x44x2x128_0_1_0_0_0, sblk v11 v26 (codeV v23 8#32) 0#32 1#32⟩,
   ⟨Rect.unit ![0, 0, 0, 0, 0] S1x1x44x2x128.size inb_S2x2x44x2x128_S1x1x44x2x128_0_0_0_0_0, sblk v11 v26 (codeV v23 24#32) 0#32 0#32⟩]

theorem scales_read (v : View sig .tc .vmem S2x2x44x2x128 .bf16) (f : v.ty.Contents (Elt Ideal)) (v11 : Elt Ideal .f32) (v26 : FVec Ideal S1x128 .f32) (v23 : Vec Ideal S256x88 .i8)
    (pn pb : Fin 2) (b : Fin 44) (e : Fin 2) (l : Fin 128) :
    v.read (Elt Ideal) (v.writes (Elt Ideal) f (scales v11 v26 v23)) (ix5 pn pb b e l)
      = FloatOps.sitofp (F := Ideal) .f32 ((v23 (ix2 ⟨2 * l.val + pn.val, by omega⟩ ⟨2 * b.val + pb.val, by omega⟩) : BitVec 8).signExtend 32)
          * v26 (ix2 0 ⟨((2 * l.val + pn.val) * 88 + (2 * b.val + pb.val)) / 256, by omega⟩) + v11 := by
  have key : ∀ (pn pb : Fin 2), sblk v11 v26 (codeV v23 (BitVec.ofNat 32 (24 - 8 * (2 * pb.val + pn.val)))) (BitVec.ofNat 32 pn.val) (BitVec.ofNat 32 pb.val) (ix5 0 0 b e l)
      = FloatOps.sitofp (F := Ideal) .f32 ((v23 (ix2 ⟨2 * l.val + pn.val, by omega⟩ ⟨2 * b.val + pb.val, by omega⟩) : BitVec 8).signExtend 32)
          * v26 (ix2 0 ⟨((2 * l.val + pn.val) * 88 + (2 * b.val + pb.val)) / 256, by omega⟩) + v11 := by
    intro pn pb
    rw [sblk_apply, codeV_apply]
  have h2 : ∀ x : Fin 2, x = 0 ∨ x = 1 := by decide
  unfold scales
  rcases h2 pn with rfl | rfl <;> rcases h2 pb with rfl | rfl
  · refine (View.read_writes_cons_unit_of_not_mem v f _ _ _ _ rfl (0 : Fin 5) (by show (0 : ℕ) < 1 ∨ 1 + 1 ≤ (0 : ℕ); omega)).trans ?_
    refine (View.read_writes_cons_unit_of_not_mem v f _ _ _ _ rfl (0 : Fin 5) (by show (0 : ℕ) < 1 ∨ 1 + 1 ≤ (0 : ℕ); omega)).trans ?_
    refine (View.read_writes_cons_unit_of_not_mem v f _ _ _ _ rfl (1 : Fin 5) (by show (0 : ℕ) < 1 ∨ 1 + 1 ≤ (0 : ℕ); omega)).trans ?_
    refine (View.read_writes_cons_unit_of_mem v f _ _ _ _ (ix5 0 0 b e l) rfl (by
      intro a
      match a with
      | ⟨0, _⟩ => rfl
      | ⟨1, _⟩ => rfl
      | ⟨2, _⟩ => exact (Nat.zero_add _).symm
      | ⟨3, _⟩ => exact (Nat.zero_add _).symm
      | ⟨4, _⟩ => exact (Nat.zero_add _).symm)).trans ?_
    exact key 0 0
  · refine (View.read_writes_cons_unit_of_not_mem v f _ _ _ _ rfl (0 : Fin 5) (by show (0 : ℕ) < 1 ∨ 1 + 1 ≤ (0 : ℕ); omega)).trans ?_
    refine (View.read_writes_cons_unit_of_not_mem v f _ _ _ _ rfl (0 : Fin 5) (by show (0 : ℕ) < 1 ∨ 1 + 1 ≤ (0 : ℕ); omega)).trans ?_
    refine (View.read_writes_cons_unit_of_mem v f _ _ _ _ (ix5 0 0 b e l) rfl (by
      intro a
      match a with
      | ⟨0, _⟩ => rfl
      | ⟨1, _⟩ => rfl
      | ⟨2, _⟩ => exact (Nat.zero_add _).symm
      | ⟨3, _⟩ => exact (Nat.zero_add _).symm
      | ⟨4, _⟩ => exact (Nat.zero_add _).symm)).trans ?_
    exact key 0 1
  · refine (View.read_writes_cons_unit_of_not_mem v f _ _ _ _ rfl (1 : Fin 5) (by show (0 : ℕ) < 1 ∨ 1 + 1 ≤ (0 : ℕ); omega)).trans ?_
    refine (View.read_writes_cons_unit_of_mem v f _ _ _ _ (ix5 0 0 b e l) rfl (by
      intro a
      match a with
      | ⟨0, _⟩ => rfl
      | ⟨1, _⟩ => rfl
      | ⟨2, _⟩ => exact (Nat.zero_add _).symm
      | ⟨3, _⟩ => exact (Nat.zero_add _).symm
      | ⟨4, _⟩ => exact (Nat.zero_add _).symm)).trans ?_
    exact key 1 0
  · refine (View.read_writes_cons_unit_of_mem v f _ _ _ _ (ix5 0 0 b e l) rfl (by
      intro a
      match a with
      | ⟨0, _⟩ => rfl
      | ⟨1, _⟩ => rfl
      | ⟨2, _⟩ => exact (Nat.zero_add _).symm
      | ⟨3, _⟩ => exact (Nat.zero_add _).symm
      | ⟨4, _⟩ => exact (Nat.zero_add _).symm)).trans ?_
    exact key 1 1

set_option maxHeartbeats 4000000 in
theorem tripG_eq (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec Ideal S32x128 .i8) (v4 : Vec Ideal S32x128 .i8) (v10 : Vec Ideal S64x16 .bf16) (v11 : Elt Ideal .f32) (X2 : BufTy.Contents (Elt Ideal) arg2.view.ty) (X3 : BufTy.Contents (Elt Ideal) arg3.view.ty) (X4 : BufTy.Contents (Elt Ideal) arg4.view.ty) (X7 : BufTy.Contents (Elt Ideal) arg7.view.ty) (X11 : BufTy.Contents (Elt Ideal) arg11.view.ty) (k : Fin k0_t2_loop.trips) (mv : Memref sig .tc .vmem S2x2x44x2x128 .bf16) (hcanon_a : (arg13.slice (Rect.unit (s := S4x2x2x44x2x128) (k0_off11 k) S1x2x2x44x2x128.size (k0_off11_inb k)) (fun _ => rfl)).squeeze S2x2x44x2x128 squeezes_S1x2x2x44x2x128_S2x2x44x2x128 = mv) (hcanon_b : (arg13.slice (Rect.unit (s := S4x2x2x44x2x128) (k0_off13 k) S1x2x2x44x2x128.size (k0_off13_inb k)) (fun _ => rfl)).squeeze S2x2x44x2x128 squeezes_S1x2x2x44x2x128_S2x2x44x2x128 = mv) :
    ∃ (v16 v18 v21 : BitVec 32) (v208 : IVec S44x128 32) (v210 : IVec S44x128 1) (v212 : FVec Ideal S44x128 .f32) (v213 : FVec Ideal S1x128 .f32),
    ∀ f13, (Cert.KernelIdeal.Body.tripG (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k mv hcanon_a hcanon_b).1 f13
      = tiles k (tileV (outV v10 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 (k0_pay7) v11 k v16 v18 v21 v208 v210 v212 v213 mv hcanon_b X2 X11 (mv.view.writes (Elt Ideal) mv.view.junk (scales v11 (shapeCast S1x128 (View.readAt (Elt Ideal) arg4.view (Rect.unit (s := S1x4x128) (k0_off10 k) S1x1x128.size (k0_off10_inb k)).toLoadRect X4) shapeCasts_S1x1x128_S1x128 : FVec Ideal S1x128 .f32) (View.readAt (Elt Ideal) arg3.view (Rect.unit (s := S1024x88) (k0_off9 k) S256x88.size (k0_off9_inb k)).toLoadRect X3))) k0_pay182 22) (View.readAt (Elt Ideal) arg7.view (Rect.unit (s := S16x1024) (k0_off19 k) S16x128.size (k0_off19_inb k)).toLoadRect X7) (View.readAt (Elt Ideal) arg7.view (Rect.unit (s := S16x1024) (k0_off20 k) S16x128.size (k0_off20_inb k)).toLoadRect X7))) := by
  refine ⟨(Scalar.muli (Scalar.addi 0#32 (Scalar.muli (Scf.iv 0#32 1#32 k.val) 1#32)) 256#32), (Scalar.muli (Scalar.addi 0#32 (Scalar.muli (Scf.iv 0#32 1#32 k.val) 1#32)) 256#32), Scalar.addi (Scalar.muli (Scalar.addi 0#32 (Scalar.muli (Scf.iv 0#32 1#32 k.val) 1#32)) 256#32) 128#32, k0_pay177 (k0_pay155 (F := Ideal) (View.readAt (Elt Ideal) arg3.view (Rect.unit (s := S1024x88) (k0_off9 k) S256x88.size (k0_off9_inb k)).toLoadRect X3)), k0_pay178 (tV (nV 1#32)), k0_pay179 (lgat (shapeCast S1x128 (View.readAt (Elt Ideal) arg4.view (Rect.unit (s := S1x4x128) (k0_off10 k) S1x1x128.size (k0_off10_inb k)).toLoadRect X4) shapeCasts_S1x1x128_S1x128 : FVec Ideal S1x128 .f32) (qV (nV 1#32))), k0_pay180 (lgat (shapeCast S1x128 (View.readAt (Elt Ideal) arg4.view (Rect.unit (s := S1x4x128) (k0_off10 k) S1x1x128.size (k0_off10_inb k)).toLoadRect X4) shapeCasts_S1x1x128_S1x128 : FVec Ideal S1x128 .f32) (q1V (nV 1#32))), fun f13 => ?_⟩
  unfold tiles
  simp only [← tile_00, ← tile_01, ← tile_10, ← tile_11, ← tile_20, ← tile_21, ← tile_30, ← tile_31]
  unfold Cert.KernelIdeal.Body.tripG
  rfl

end Cert.KernelIdeal.Val

end
-- ==== Proof.GroupVal.lean ====
/- The output block after its groups, at an index: every element as sums over what the block's inputs held. -/
module

public import proofs.«01_k».proof.Proof.IdealLoop
public import proofs.«01_k».proof.Proof.Group

@[expose] public section

set_option maxRecDepth 16384

noncomputable section

namespace Cert.KernelIdeal.Val

open Cert.KernelIdeal Cert.KernelIdeal.Gen
open Idealize.ShloMosaic Idealize.ShloMosaic.TcCoe

/-- The scale of an output column's block: its code times its float scale, plus the offset. -/
def sclVal (C : Fin 1024 → Fin 88 → BitVec 8) (S : Fin 4 → Fin 128 → EReal) (off : EReal) (k : Fin 4) (q : Fin 256) (b : Fin 88) : EReal :=
  FloatOps.sitofp (F := Ideal) .f32 ((C ⟨256 * k.val + q.val, by omega⟩ b).signExtend 32) * S k ⟨(q.val * 88 + b.val) / 256, by omega⟩ + off

/-- An element of the output block: output column `2n + pn` of group `k`. -/
def blkVal (XP : Fin 64 → Fin 5632 → EReal) (v3 v4 : Vec Ideal S32x128 .i8) (W : Fin 1024 → Fin 2816 → BitVec 8) (C : Fin 1024 → Fin 88 → BitVec 8)
    (S : Fin 4 → Fin 128 → EReal) (off : EReal) (T : Fin 64 → Fin 16 → EReal) (LB : Fin 16 → Fin 1024 → EReal) (m : Fin 64) (k : Fin 4) (pn : Fin 2) (n : Fin 128) : EReal :=
  (∑ z : Fin 22, chunkSum XP v3 v4 W (fun p q b e l => sclVal C S off k ⟨2 * l.val + p.val, by omega⟩ ⟨2 * b.val + q.val, by omega⟩) k.val k.isLt z.val z.isLt m pn n)
    + Ideal.ofBits .f32 0x40000000#32 * ∑ j : Fin 16, T m j * LB j ⟨256 * k.val + (2 * n.val + pn.val), by omega⟩

theorem tileV_at (z : FVec Ideal S64x256 .bf16) (m : Fin 64) (q : Fin 256) :
    tileV z ⟨m.val / 16, by omega⟩ ⟨q.val / 128, by omega⟩ (ix2 ⟨m.val % 16, by omega⟩ ⟨q.val % 128, by omega⟩)
      = z (ix2 m ⟨128 * (q.val % 2) + q.val / 2, by omega⟩) := by
  show z (ix2 _ _) = _
  refine congrArg z (congrArg₂ ix2 (Fin.ext ?_) (Fin.ext ?_))
  · show 16 * (m.val / 16) + m.val % 16 = m.val
    omega
  · show 128 * (q.val % 128 % 2) + (q.val % 128 / 2 + 64 * (q.val / 128)) = 128 * (q.val % 2) + q.val / 2
    omega

set_option maxHeartbeats 1000000 in
theorem piecesG_at (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec Ideal S32x128 .i8) (v4 : Vec Ideal S32x128 .i8) (v10 : Vec Ideal S64x16 .bf16) (v11 : Elt Ideal .f32) (X2 : BufTy.Contents (Elt Ideal) arg2.view.ty) (X3 : BufTy.Contents (Elt Ideal) arg3.view.ty) (X4 : BufTy.Contents (Elt Ideal) arg4.view.ty) (X7 : BufTy.Contents (Elt Ideal) arg7.view.ty) (X11 : BufTy.Contents (Elt Ideal) arg11.view.ty) (k : Fin k0_t2_loop.trips)   (f13) (f : BufTy.Contents (Elt Ideal) arg10.view.ty) (hk : k.val < 4) (m : Fin 64) (col : Fin 1024) :
    (∀ q : Fin 256, col.val = 256 * k.val + q.val → arg10.view.read (Elt Ideal) (arg10.view.writes (Elt Ideal) f (Cert.KernelIdeal.Body.piecesG (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k f13)) (ix2 m col)
      = blkVal (fun m j => arg11.view.read (Elt Ideal) X11 (ix2 m j)) v3 v4 (fun r j => arg2.view.read (Elt Ideal) X2 (ix2 r j)) (fun r j => arg3.view.read (Elt Ideal) X3 (ix2 r j))
          (fun k l => arg4.view.read (Elt Ideal) X4 (ix3 0 k l)) v11 (fun m j => v10 (ix2 m j)) (fun j n => arg7.view.read (Elt Ideal) X7 (ix2 j n)) m ⟨k.val, hk⟩ ⟨q.val % 2, by omega⟩ ⟨q.val / 2, by omega⟩)
    ∧ (col.val < 256 * k.val ∨ 256 * k.val + 256 ≤ col.val → arg10.view.read (Elt Ideal) (arg10.view.writes (Elt Ideal) f (Cert.KernelIdeal.Body.piecesG (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k f13)) (ix2 m col)
      = arg10.view.read (Elt Ideal) f (ix2 m col)) := by
  obtain ⟨v16, v18, v21, v208, v210, v212, v213, e⟩ := tripG_eq 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 k (Cert.KernelIdeal.Body.slab arg13 k) (Cert.KernelIdeal.Body.canon_a arg13 k) rfl
  unfold Cert.KernelIdeal.Body.piecesG
  rw [e f13]
  refine ⟨fun q hq => ?_, fun h => tiles_out _ _ _ _ _ _ h⟩
  have hqq := q.isLt
  rw [tiles_in _ _ _ _ m col q hq, tileV_at]
  refine (outV_apply _ _ _ _ m ⟨q.val % 2, by omega⟩ ⟨q.val / 2, by omega⟩).trans ?_
  rw [st_apply 𝒱 c bd i _ _ _ _ _ _ _ _ _ _ _ _ _ _ _ _ _ _ _ _ _ _ _ _ _ _ _ _ _ _ _ _ _ _ _ _ _ _ _ _ _ _ _ m ⟨q.val % 2, by omega⟩ ⟨q.val / 2, by omega⟩ hk 22 le_rfl]
  unfold blkVal
  refine congrArg₂ (· + ·) ?_ (congrArg (_ * ·) (Finset.sum_congr rfl fun j _ => congrArg (_ * ·) ?_))
  · have z0 : ∀ x, k0_pay182 (F := Ideal) x = 0 := fun x => Ideal.ofBits_zero_f32
    rw [z0, zero_add, Finset.sum_range]
    refine Finset.sum_congr rfl fun z _ => ?_
    rw [dif_pos z.isLt]
    refine congrArg (fun A => chunkSum _ v3 v4 _ A k.val hk z.val z.isLt m _ _) ?_
    funext p q b e l
    rw [scales_read]
    unfold sclVal
    refine congrArg₂ (· + ·) (congrArg₂ (· * ·) (congrArg (fun b : BitVec 8 => FloatOps.sitofp (F := Ideal) .f32 (b.signExtend 32)) ?_) ?_) rfl
    · exact rdAt arg3.view _ X3 (off9 k) _ _ (by intro a; fin_cases a <;> simp [ix2])
    · pointwise
      refine (rdAt arg4.view _ X4 (off10 k) _ (ix3 0 ⟨k.val, hk⟩ _) ?_)
      intro a
      match a with
      | ⟨0, _⟩ => rfl
      | ⟨1, _⟩ => rfl
      | ⟨2, _⟩ => exact (Nat.zero_add _).symm
  · dsimp only []
    split
    · refine (rdAt arg7.view _ X7 (off19 k) _ _ ?_)
      intro a
      match a with
      | ⟨0, _⟩ => exact (Nat.zero_add _).symm
      | ⟨1, _⟩ => show 256 * k.val + (2 * (q.val / 2) + q.val % 2) = 256 * k.val + (2 * (q.val / 2) + q.val % 2) % 128; omega
    · refine (rdAt arg7.view _ X7 (off20 k) _ _ ?_)
      intro a
      match a with
      | ⟨0, _⟩ => exact (Nat.zero_add _).symm
      | ⟨1, _⟩ => show 256 * k.val + (2 * (q.val / 2) + q.val % 2) = 256 * k.val + 128 + (2 * (q.val / 2) + q.val % 2) % 128; omega

theorem reach_at (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v3 : Vec Ideal S32x128 .i8) (v4 : Vec Ideal S32x128 .i8) (v10 : Vec Ideal S64x16 .bf16) (v11 : Elt Ideal .f32) (X2 : BufTy.Contents (Elt Ideal) arg2.view.ty) (X3 : BufTy.Contents (Elt Ideal) arg3.view.ty) (X4 : BufTy.Contents (Elt Ideal) arg4.view.ty) (X7 : BufTy.Contents (Elt Ideal) arg7.view.ty) (X11 : BufTy.Contents (Elt Ideal) arg11.view.ty) (G : BufTy.Contents (Elt Ideal) arg10.view.ty) (m : Fin 64) : ∀ (j : ℕ) (f : BufTy.Contents (Elt Ideal) arg10.view.ty), Cert.KernelIdeal.Body.Reach (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 G j f → ∀ col : Fin 1024, col.val < 256 * j →
    arg10.view.read (Elt Ideal) f (ix2 m col)
      = blkVal (fun m j => arg11.view.read (Elt Ideal) X11 (ix2 m j)) v3 v4 (fun r j => arg2.view.read (Elt Ideal) X2 (ix2 r j)) (fun r j => arg3.view.read (Elt Ideal) X3 (ix2 r j))
          (fun k l => arg4.view.read (Elt Ideal) X4 (ix3 0 k l)) v11 (fun m j => v10 (ix2 m j)) (fun j n => arg7.view.read (Elt Ideal) X7 (ix2 j n)) m ⟨col.val / 256, by omega⟩ ⟨col.val % 256 % 2, by omega⟩ ⟨col.val % 256 / 2, by omega⟩ := by
  intro j
  induction j with
  | zero => intro f _ col h; omega
  | succ j ih =>
    intro f hf col hcol
    obtain ⟨h, f', f13, hr, rfl⟩ := hf
    have h4 : j < 4 := h
    have P := piecesG_at 𝒱 c bd i arg1 harg1 arg2 harg2 arg3 harg3 arg4 harg4 arg5 harg5 arg6 harg6 arg7 harg7 arg8 harg8 arg9 harg9 arg10 harg10 arg11 harg11 arg12 harg12 arg13 harg13 v3 v4 v10 v11 X2 X3 X4 X7 X11 ⟨j, h⟩ f13 f' h4 m col
    by_cases hc : col.val < 256 * j
    · rw [P.2 (Or.inl hc)]
      exact ih f' hr col hc
    · have hcl := col.isLt
      rw [P.1 ⟨col.val % 256, by omega⟩ (by show col.val = 256 * j + col.val % 256; omega)]
      have ek : (⟨j, h4⟩ : Fin 4) = ⟨col.val / 256, by omega⟩ := Fin.ext (by show j = col.val / 256; omega)
      rw [← ek]

end Cert.KernelIdeal.Val

end
-- ==== Proof.Spec.lean ====
/- The layer as plain sums over the extended reals: what the kernel and the reference both compute. -/
module

public import Idealize.ShloMosaic.Lib.Pointwise

@[expose] public section

noncomputable section

namespace Cert.Spec

open Idealize.ShloMosaic

/-- The sixteen weight values. -/
def nf4 (i : Fin 16) : EReal :=
  ![Ideal.ofBits .bf16 0xBF80#16, Ideal.ofBits .bf16 0xBF32#16, Ideal.ofBits .bf16 0xBF06#16, Ideal.ofBits .bf16 0xBECA#16,
    Ideal.ofBits .bf16 0xBE92#16, Ideal.ofBits .bf16 0xBE3D#16, Ideal.ofBits .bf16 0xBDBA#16, 0,
    Ideal.ofBits .bf16 0x3DA3#16, Ideal.ofBits .bf16 0x3E25#16, Ideal.ofBits .bf16 0x3E7C#16, Ideal.ofBits .bf16 0x3EAD#16,
    Ideal.ofBits .bf16 0x3EE2#16, Ideal.ofBits .bf16 0x3F10#16, Ideal.ofBits .bf16 0x3F39#16, 1] i

/-- A nibble of a packed byte. -/
def nibble (hi : Bool) (b : BitVec 8) : Fin 16 := ⟨(if hi then b >>> 4 else b &&& 15#8).toNat % 16, Nat.mod_lt _ (by decide)⟩

/-- The scale of a block of 64 weights of a row. -/
def absm (c : Fin 17280 → Fin 88 → BitVec 8) (s : Fin 5940 → EReal) (off : EReal) (n : Fin 17280) (b : Fin 88) : EReal :=
  FloatOps.sitofp (F := Ideal) .f32 ((c n b).signExtend 32) * s ⟨(n.val * 88 + b.val) / 256, by omega⟩ + off

/-- One element of the result. -/
def out (x : Fin 64 → Fin 5632 → EReal) (w : Fin 17280 → Fin 2816 → BitVec 8) (c : Fin 17280 → Fin 88 → BitVec 8) (s : Fin 5940 → EReal) (off : EReal)
    (la : Fin 5632 → Fin 16 → EReal) (lb : Fin 16 → Fin 17280 → EReal) (m : Fin 64) (n : Fin 17280) : EReal :=
  ((∑ K : Fin 2816, x m ⟨2 * K.val, by omega⟩ * (nf4 (nibble true (w n K)) * absm c s off n ⟨K.val / 32, by omega⟩))
      + ∑ K : Fin 2816, x m ⟨2 * K.val + 1, by omega⟩ * (nf4 (nibble false (w n K)) * absm c s off n ⟨K.val / 32, by omega⟩))
    + Ideal.ofBits .f32 0x40000000#32 * ∑ j : Fin 16, (∑ d : Fin 5632, x m d * la d j) * lb j n

end Cert.Spec

end
-- ==== Proof.Blk.lean ====
/- The kernel's element is the layer's: the chunks' sums put together again. -/
module

public import proofs.«01_k».proof.Proof.GroupVal
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe

/-- A sum over the packed columns, chunk by chunk. -/
theorem sum_chunks (F : Fin 2816 → EReal) : (∑ z : Fin 22, ∑ s : Fin 128, F ⟨128 * z.val + s.val, by omega⟩) = ∑ K : Fin 2816, F K := by
  have e : (∑ K : Fin (22 * 128), F K) = ∑ p : Fin 22 × Fin 128, F (finProdFinEquiv p) := (Equiv.sum_comp finProdFinEquiv (fun K : Fin (22 * 128) => F K)).symm
  refine Eq.trans ?_ e.symm
  rw [Fintype.sum_prod_type]
  refine Finset.sum_congr rfl fun z _ => Finset.sum_congr rfl fun s _ => congrArg F (Fin.ext ?_)
  show 128 * z.val + s.val = s.val + 128 * z.val
  omega

set_option maxHeartbeats 1000000 in
theorem blk_out (XP : Fin 64 → Fin 5632 → EReal) (v3 v4 : Vec Ideal S32x128 .i8) (W : Fin 1024 → Fin 2816 → BitVec 8) (C : Fin 1024 → Fin 88 → BitVec 8)
    (S : Fin 4 → Fin 128 → EReal) (off : EReal) (T : Fin 64 → Fin 16 → EReal) (LB : Fin 16 → Fin 1024 → EReal) (m : Fin 64) (k : Fin 4) (pn : Fin 2) (n : Fin 128)
    (x : Fin 64 → Fin 5632 → EReal) (w : Fin 17280 → Fin 2816 → BitVec 8) (c : Fin 17280 → Fin 88 → BitVec 8) (sc : Fin 5940 → EReal)
    (la : Fin 5632 → Fin 16 → EReal) (lb : Fin 16 → Fin 17280 → EReal) (N : Fin 17280)
    (hXP : ∀ col : Fin 5632, XP m col = x m ⟨256 * (col.val / 256) + 2 * (col.val % 128) + col.val % 256 / 128, by omega⟩)
    (hT : ∀ j, T m j = ∑ d : Fin 5632, x m d * la d j)
    (htab : ∀ hi b, tabVal v3 v4 hi b n = Spec.nf4 (Spec.nibble hi b))
    (hW : ∀ K, W ⟨256 * k.val + (2 * n.val + pn.val), by omega⟩ K = w N K)
    (hC : ∀ b, C ⟨256 * k.val + (2 * n.val + pn.val), by omega⟩ b = c N b)
    (hS : ∀ b : Fin 88, S k ⟨((2 * n.val + pn.val) * 88 + b.val) / 256, by omega⟩ = sc ⟨(N.val * 88 + b.val) / 256, by omega⟩)
    (hLB : ∀ j, LB j ⟨256 * k.val + (2 * n.val + pn.val), by omega⟩ = lb j N) :
    blkVal XP v3 v4 W C S off T LB m k pn n = Spec.out x w c sc off la lb m N := by
  have key : ∀ b : Fin 88, sclVal C S off k ⟨2 * n.val + pn.val, by omega⟩ b = Spec.absm c sc off N b := fun b => by
    unfold sclVal Spec.absm
    refine congrArg (fun z : EReal => z + off) (congrArg₂ (fun a b : EReal => a * b) ?_ (hS b))
    exact congrArg (fun u : BitVec 8 => FloatOps.sitofp (F := Ideal) .f32 (u.signExtend 32)) (hC b)
  unfold blkVal Spec.out
  refine congrArg₂ (fun a b : EReal => a + b) ?_ ?_
  · unfold chunkSum
    rw [Finset.sum_add_distrib, ← sum_chunks, ← sum_chunks]
    refine congrArg₂ (fun a b : EReal => a + b) (Finset.sum_congr rfl fun z _ => Finset.sum_congr rfl fun s _ => ?_) (Finset.sum_congr rfl fun z _ => Finset.sum_congr rfl fun s _ => ?_)
    · refine congrArg₂ (fun a b : EReal => a * b) ((hXP _).trans (congrArg (x m) (Fin.ext ?_))) (congrArg₂ (fun a b : EReal => a * b) ((htab _ _).trans ?_) ?_)
      · dsimp only []; omega
      · rw [hW]
      · exact (key _).trans (congrArg (Spec.absm c sc off N) (Fin.ext (by dsimp only []; omega)))
    · refine congrArg₂ (fun a b : EReal => a * b) ((hXP _).trans (congrArg (x m) (Fin.ext ?_))) (congrArg₂ (fun a b : EReal => a * b) ((htab _ _).trans ?_) ?_)
      · dsimp only []; omega
      · rw [hW]
      · exact (key _).trans (congrArg (Spec.absm c sc off N) (Fin.ext (by dsimp only []; omega)))
  · refine congrArg (fun z : EReal => Ideal.ofBits .f32 0x40000000#32 * z) (Finset.sum_congr rfl fun j _ => ?_)
    rw [hT, hLB]

end Cert.KernelIdeal.Val

end
-- ==== Proof.XP.lean ====
/- The prepared activations: the even elements of each 256, then the odd ones. -/
module

public import proofs.«01_k».proof.Proof.ChunkVal
public import proofs.«01_k».proof.Proof.Lanes
public import Idealize.ShloMosaic.Lib.WritesUnit

@[expose] public section

set_option maxRecDepth 16384

noncomputable section

namespace Cert.KernelIdeal.Val

open Cert.KernelIdeal Cert.KernelIdeal.Gen
open Idealize.ShloMosaic Idealize.ShloMosaic.TcCoe

theorem off1 : ∀ (k : Fin k0_t1_loop.trips), k0_off1 k = ![0, 256 * k.val + 0] := by decide
theorem off2 : ∀ (k : Fin k0_t1_loop.trips), k0_off2 k = ![0, 256 * k.val + 128] := by decide
theorem off3 : ∀ (k : Fin k0_t1_loop.trips), k0_off3 k = ![16, 256 * k.val + 0] := by decide
theorem off4 : ∀ (k : Fin k0_t1_loop.trips), k0_off4 k = ![16, 256 * k.val + 128] := by decide
theorem off5 : ∀ (k : Fin k0_t1_loop.trips), k0_off5 k = ![32, 256 * k.val + 0] := by decide
theorem off6 : ∀ (k : Fin k0_t1_loop.trips), k0_off6 k = ![32, 256 * k.val + 128] := by decide
theorem off7 : ∀ (k : Fin k0_t1_loop.trips), k0_off7 k = ![48, 256 * k.val + 0] := by decide
theorem off8 : ∀ (k : Fin k0_t1_loop.trips), k0_off8 k = ![48, 256 * k.val + 128] := by decide

/-- The even or the odd lanes of two half blocks. -/
def xtile (h : Fin 2) (b0 b1 : Vec Ideal S16x128 .bf16) : FVec Ideal S16x128 .bf16 :=
  match h with
  | 0 => shapeCast S16x128 (truncf .bf16 (deiE (extf .f32 (shapeCast S16x128 b0 shapeCasts_S16x128_S16x128) bitsLt_bf16_f32) (extf .f32 (shapeCast S16x128 b1 shapeCasts_S16x128_S16x128) bitsLt_bf16_f32)) bitsLt_bf16_f32) shapeCasts_S16x128_S16x128
  | 1 => shapeCast S16x128 (truncf .bf16 (deiO (extf .f32 (shapeCast S16x128 b0 shapeCasts_S16x128_S16x128) bitsLt_bf16_f32) (extf .f32 (shapeCast S16x128 b1 shapeCasts_S16x128_S16x128) bitsLt_bf16_f32)) bitsLt_bf16_f32) shapeCasts_S16x128_S16x128

theorem xtile_apply (h : Fin 2) (b0 b1 : Vec Ideal S16x128 .bf16) (r : Fin 16) (l : Fin 128) :
    xtile h b0 b1 (ix2 r l) = if l.val < 64 then b0 (ix2 r ⟨(2 * l.val + h.val) % 128, by omega⟩) else b1 (ix2 r ⟨(2 * l.val + h.val) % 128, by omega⟩) := by
  have h2 : ∀ x : Fin 2, x = 0 ∨ x = 1 := by decide
  rcases h2 h with rfl | rfl
  · unfold xtile
    simp only [shapeCast_self]
    exact deiE_apply _ _ r l
  · unfold xtile
    simp only [shapeCast_self]
    exact deiO_apply _ _ r l

/-- The stores of a trip. -/
def xtiles {i : grid0.Coords} (k0_h1 : k0_cond1 i = 1#1) (k : Fin k0_t1_loop.trips) (z : Fin 4 → Fin 2 → FVec Ideal S16x128 .bf16) (L : List (View.Piece (Elt Ideal) S64x5632 .bf16)) : List (View.Piece (Elt Ideal) S64x5632 .bf16) :=
  ⟨Rect.unit (s := S64x5632) (k0_off8 k) S16x128.size (k0_off8_inb i k k0_h1), z 3 1⟩ ::
   ⟨Rect.unit (s := S64x5632) (k0_off7 k) S16x128.size (k0_off7_inb i k k0_h1), z 3 0⟩ ::
   ⟨Rect.unit (s := S64x5632) (k0_off6 k) S16x128.size (k0_off6_inb i k k0_h1), z 2 1⟩ ::
   ⟨Rect.unit (s := S64x5632) (k0_off5 k) S16x128.size (k0_off5_inb i k k0_h1), z 2 0⟩ ::
   ⟨Rect.unit (s := S64x5632) (k0_off4 k) S16x128.size (k0_off4_inb i k k0_h1), z 1 1⟩ ::
   ⟨Rect.unit (s := S64x5632) (k0_off3 k) S16x128.size (k0_off3_inb i k k0_h1), z 1 0⟩ ::
   ⟨Rect.unit (s := S64x5632) (k0_off2 k) S16x128.size (k0_off2_inb i k k0_h1), z 0 1⟩ ::
   ⟨Rect.unit (s := S64x5632) (k0_off1 k) S16x128.size (k0_off1_inb i k k0_h1), z 0 0⟩ :: L

theorem xtiles_app {i : grid0.Coords} (k0_h1 : k0_cond1 i = 1#1) (k : Fin k0_t1_loop.trips) (z : Fin 4 → Fin 2 → FVec Ideal S16x128 .bf16) (L : List (View.Piece (Elt Ideal) S64x5632 .bf16)) :
    xtiles k0_h1 k z [] ++ L = xtiles k0_h1 k z L := rfl

theorem xtiles_out (v : View sig .tc .vmem S64x5632 .bf16) (f : v.ty.Contents (Elt Ideal)) (L : List (View.Piece (Elt Ideal) S64x5632 .bf16)) {i : grid0.Coords} (k0_h1 : k0_cond1 i = 1#1) (k : Fin k0_t1_loop.trips) (z : Fin 4 → Fin 2 → FVec Ideal S16x128 .bf16)
    (m : Fin 64) (col : Fin 5632) (h : col.val < 256 * k.val ∨ 256 * k.val + 256 ≤ col.val) :
    v.read (Elt Ideal) (v.writes (Elt Ideal) f (xtiles k0_h1 k z L)) (ix2 m col) = v.read (Elt Ideal) (v.writes (Elt Ideal) f L) (ix2 m col) := by
  unfold xtiles
  refine (View.read_writes_cons_unit_of_not_mem v f _ _ _ (ix2 m col) (off8 k) (1 : Fin 2) (by show col.val < 256 * k.val + 128 ∨ 256 * k.val + 128 + 128 ≤ col.val; omega)).trans ?_
  refine (View.read_writes_cons_unit_of_not_mem v f _ _ _ (ix2 m col) (off7 k) (1 : Fin 2) (by show col.val < 256 * k.val + 0 ∨ 256 * k.val + 0 + 128 ≤ col.val; omega)).trans ?_
  refine (View.read_writes_cons_unit_of_not_mem v f _ _ _ (ix2 m col) (off6 k) (1 : Fin 2) (by show col.val < 256 * k.val + 128 ∨ 256 * k.val + 128 + 128 ≤ col.val; omega)).trans ?_
  refine (View.read_writes_cons_unit_of_not_mem v f _ _ _ (ix2 m col) (off5 k) (1 : Fin 2) (by show col.val < 256 * k.val + 0 ∨ 256 * k.val + 0 + 128 ≤ col.val; omega)).trans ?_
  refine (View.read_writes_cons_unit_of_not_mem v f _ _ _ (ix2 m col) (off4 k) (1 : Fin 2) (by show col.val < 256 * k.val + 128 ∨ 256 * k.val + 128 + 128 ≤ col.val; omega)).trans ?_
  refine (View.read_writes_cons_unit_of_not_mem v f _ _ _ (ix2 m col) (off3 k) (1 : Fin 2) (by show col.val < 256 * k.val + 0 ∨ 256 * k.val + 0 + 128 ≤ col.val; omega)).trans ?_
  refine (View.read_writes_cons_unit_of_not_mem v f _ _ _ (ix2 m col) (off2 k) (1 : Fin 2) (by show col.val < 256 * k.val + 128 ∨ 256 * k.val + 128 + 128 ≤ col.val; omega)).trans ?_
  refine (View.read_writes_cons_unit_of_not_mem v f _ _ _ (ix2 m col) (off1 k) (1 : Fin 2) (by show col.val < 256 * k.val + 0 ∨ 256 * k.val + 0 + 128 ≤ col.val; omega)).trans ?_
  rfl

theorem xtiles_in (v : View sig .tc .vmem S64x5632 .bf16) (f : v.ty.Contents (Elt Ideal)) (L : List (View.Piece (Elt Ideal) S64x5632 .bf16)) {i : grid0.Coords} (k0_h1 : k0_cond1 i = 1#1) (k : Fin k0_t1_loop.trips) (z : Fin 4 → Fin 2 → FVec Ideal S16x128 .bf16)
    (m : Fin 64) (col : Fin 5632) (q : Fin 256) (hc : col.val = 256 * k.val + q.val) :
    v.read (Elt Ideal) (v.writes (Elt Ideal) f (xtiles k0_h1 k z L)) (ix2 m col) = z ⟨m.val / 16, by omega⟩ ⟨q.val / 128, by omega⟩ (ix2 ⟨m.val % 16, by omega⟩ ⟨q.val % 128, by omega⟩) := by
  have hm := m.isLt
  have hq := q.isLt
  unfold xtiles
  have hcase : (m.val / 16 = 0 ∨ m.val / 16 = 1 ∨ m.val / 16 = 2 ∨ m.val / 16 = 3) ∧ (q.val / 128 = 0 ∨ q.val / 128 = 1) := by omega
  obtain ⟨hi | hi | hi | hi, hh | hh⟩ := hcase
  · refine (View.read_writes_cons_unit_of_not_mem v f _ _ _ (ix2 m col) (off8 k) (0 : Fin 2) (by show m.val < 48 ∨ 48 + 16 ≤ m.val; omega)).trans ?_
    refine (View.read_writes_cons_unit_of_not_mem v f _ _ _ (ix2 m col) (off7 k) (0 : Fin 2) (by show m.val < 48 ∨ 48 + 16 ≤ m.val; omega)).trans ?_
    refine (View.read_writes_cons_unit_of_not_mem v f _ _ _ (ix2 m col) (off6 k) (0 : Fin 2) (by show m.val < 32 ∨ 32 + 16 ≤ m.val; omega)).trans ?_
    refine (View.read_writes_cons_unit_of_not_mem v f _ _ _ (ix2 m col) (off5 k) (0 : Fin 2) (by show m.val < 32 ∨ 32 + 16 ≤ m.val; omega)).trans ?_
    refine (View.read_writes_cons_unit_of_not_mem v f _ _ _ (ix2 m col) (off4 k) (0 : Fin 2) (by show m.val < 16 ∨ 16 + 16 ≤ m.val; omega)).trans ?_
    refine (View.read_writes_cons_unit_of_not_mem v f _ _ _ (ix2 m col) (off3 k) (0 : Fin 2) (by show m.val < 16 ∨ 16 + 16 ≤ m.val; omega)).trans ?_
    refine (View.read_writes_cons_unit_of_not_mem v f _ _ _ (ix2 m col) (off2 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off1 k) (by
      intro a
      match a with
      | ⟨0, _⟩ => show m.val = 0 + m.val % 16; omega
      | ⟨1, _⟩ => show col.val = 256 * k.val + 0 + q.val % 128; omega)).trans ?_
    exact congrFun (congrArg₂ z (Fin.ext hi.symm) (Fin.ext hh.symm)) _
  · refine (View.read_writes_cons_unit_of_not_mem v f _ _ _ (ix2 m col) (off8 k) (0 : Fin 2) (by show m.val < 48 ∨ 48 + 16 ≤ m.val; omega)).trans ?_
    refine (View.read_writes_cons_unit_of_not_mem v f _ _ _ (ix2 m col) (off7 k) (0 : Fin 2) (by show m.val < 48 ∨ 48 + 16 ≤ m.val; omega)).trans ?_
    refine (View.read_writes_cons_unit_of_not_mem v f _ _ _ (ix2 m col) (off6 k) (0 : Fin 2) (by show m.val < 32 ∨ 32 + 16 ≤ m.val; omega)).trans ?_
    refine (View.read_writes_cons_unit_of_not_mem v f _ _ _ (ix2 m col) (off5 k) (0 : Fin 2) (by show m.val < 32 ∨ 32 + 16 ≤ m.val; omega)).trans ?_
    refine (View.read_writes_cons_unit_of_not_mem v f _ _ _ (ix2 m col) (off4 k) (0 : Fin 2) (by show m.val < 16 ∨ 16 + 16 ≤ m.val; omega)).trans ?_
    refine (View.read_writes_cons_unit_of_not_mem v f _ _ _ (ix2 m col) (off3 k) (0 : Fin 2) (by show m.val < 16 ∨ 16 + 16 ≤ m.val; omega)).trans ?_
    refine (View.read_writes_cons_unit_of_mem v f _ _ _ (ix2 m col) (ix2 ⟨m.val % 16, by omega⟩ ⟨q.val % 128, by omega⟩) (off2 k) (by
      intro a
      match a with
      | ⟨0, _⟩ => show m.val = 0 + m.val % 16; omega
      | ⟨1, _⟩ => show col.val = 256 * k.val + 128 + q.val % 128; omega)).trans ?_
    exact congrFun (congrArg₂ z (Fin.ext hi.symm) (Fin.ext hh.symm)) _
  · refine (View.read_writes_cons_unit_of_not_mem v f _ _ _ (ix2 m col) (off8 k) (0 : Fin 2) (by show m.val < 48 ∨ 48 + 16 ≤ m.val; omega)).trans ?_
    refine (View.read_writes_cons_unit_of_not_mem v f _ _ _ (ix2 m col) (off7 k) (0 : Fin 2) (by show m.val < 48 ∨ 48 + 16 ≤ m.val; omega)).trans ?_
    refine (View.read_writes_cons_unit_of_not_mem v f _ _ _ (ix2 m col) (off6 k) (0 : Fin 2) (by show m.val < 32 ∨ 32 + 16 ≤ m.val; omega)).trans ?_
    refine (View.read_writes_cons_unit_of_not_mem v f _ _ _ (ix2 m col) (off5 k) (0 : Fin 2) (by show m.val < 32 ∨ 32 + 16 ≤ m.val; omega)).trans ?_
    refine (View.read_writes_cons_unit_of_not_mem v f _ _ _ (ix2 m col) (off4 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off3 k) (by
      intro a
      match a with
      | ⟨0, _⟩ => show m.val = 16 + m.val % 16; omega
      | ⟨1, _⟩ => show col.val = 256 * k.val + 0 + q.val % 128; omega)).trans ?_
    exact congrFun (congrArg₂ z (Fin.ext hi.symm) (Fin.ext hh.symm)) _
  · refine (View.read_writes_cons_unit_of_not_mem v f _ _ _ (ix2 m col) (off8 k) (0 : Fin 2) (by show m.val < 48 ∨ 48 + 16 ≤ m.val; omega)).trans ?_
    refine (View.read_writes_cons_unit_of_not_mem v f _ _ _ (ix2 m col) (off7 k) (0 : Fin 2) (by show m.val < 48 ∨ 48 + 16 ≤ m.val; omega)).trans ?_
    refine (View.read_writes_cons_unit_of_not_mem v f _ _ _ (ix2 m col) (off6 k) (0 : Fin 2) (by show m.val < 32 ∨ 32 + 16 ≤ m.val; omega)).trans ?_
    refine (View.read_writes_cons_unit_of_not_mem v f _ _ _ (ix2 m col) (off5 k) (0 : Fin 2) (by show m.val < 32 ∨ 32 + 16 ≤ m.val; omega)).trans ?_
    refine (View.read_writes_cons_unit_of_mem v f _ _ _ (ix2 m col) (ix2 ⟨m.val % 16, by omega⟩ ⟨q.val % 128, by omega⟩) (off4 k) (by
      intro a
      match a with
      | ⟨0, _⟩ => show m.val = 16 + m.val % 16; omega
      | ⟨1, _⟩ => show col.val = 256 * k.val + 128 + q.val % 128; omega)).trans ?_
    exact congrFun (congrArg₂ z (Fin.ext hi.symm) (Fin.ext hh.symm)) _
  · refine (View.read_writes_cons_unit_of_not_mem v f _ _ _ (ix2 m col) (off8 k) (0 : Fin 2) (by show m.val < 48 ∨ 48 + 16 ≤ m.val; omega)).trans ?_
    refine (View.read_writes_cons_unit_of_not_mem v f _ _ _ (ix2 m col) (off7 k) (0 : Fin 2) (by show m.val < 48 ∨ 48 + 16 ≤ m.val; omega)).trans ?_
    refine (View.read_writes_cons_unit_of_not_mem v f _ _ _ (ix2 m col) (off6 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off5 k) (by
      intro a
      match a with
      | ⟨0, _⟩ => show m.val = 32 + m.val % 16; omega
      | ⟨1, _⟩ => show col.val = 256 * k.val + 0 + q.val % 128; omega)).trans ?_
    exact congrFun (congrArg₂ z (Fin.ext hi.symm) (Fin.ext hh.symm)) _
  · refine (View.read_writes_cons_unit_of_not_mem v f _ _ _ (ix2 m col) (off8 k) (0 : Fin 2) (by show m.val < 48 ∨ 48 + 16 ≤ m.val; omega)).trans ?_
    refine (View.read_writes_cons_unit_of_not_mem v f _ _ _ (ix2 m col) (off7 k) (0 : Fin 2) (by show m.val < 48 ∨ 48 + 16 ≤ m.val; omega)).trans ?_
    refine (View.read_writes_cons_unit_of_mem v f _ _ _ (ix2 m col) (ix2 ⟨m.val % 16, by omega⟩ ⟨q.val % 128, by omega⟩) (off6 k) (by
      intro a
      match a with
      | ⟨0, _⟩ => show m.val = 32 + m.val % 16; omega
      | ⟨1, _⟩ => show col.val = 256 * k.val + 128 + q.val % 128; omega)).trans ?_
    exact congrFun (congrArg₂ z (Fin.ext hi.symm) (Fin.ext hh.symm)) _
  · refine (View.read_writes_cons_unit_of_not_mem v f _ _ _ (ix2 m col) (off8 k) (1 : Fin 2) (by show col.val < 256 * k.val + 128 ∨ 256 * k.val + 128 + 128 ≤ col.val; omega)).trans ?_
    refine (View.read_writes_cons_unit_of_mem v f _ _ _ (ix2 m col) (ix2 ⟨m.val % 16, by omega⟩ ⟨q.val % 128, by omega⟩) (off7 k) (by
      intro a
      match a with
      | ⟨0, _⟩ => show m.val = 48 + m.val % 16; omega
      | ⟨1, _⟩ => show col.val = 256 * k.val + 0 + q.val % 128; omega)).trans ?_
    exact congrFun (congrArg₂ z (Fin.ext hi.symm) (Fin.ext hh.symm)) _
  · refine (View.read_writes_cons_unit_of_mem v f _ _ _ (ix2 m col) (ix2 ⟨m.val % 16, by omega⟩ ⟨q.val % 128, by omega⟩) (off8 k) (by
      intro a
      match a with
      | ⟨0, _⟩ => show m.val = 48 + m.val % 16; omega
      | ⟨1, _⟩ => show col.val = 256 * k.val + 128 + q.val % 128; omega)).trans ?_
    exact congrFun (congrArg₂ z (Fin.ext hi.symm) (Fin.ext hh.symm)) _

/-- The half blocks a trip reads. -/
def xblk (v : View sig .tc .vmem S64x5632 .bf16) (f : v.ty.Contents (Elt Ideal)) {i : grid0.Coords} (k0_h1 : k0_cond1 i = 1#1) (k : Fin k0_t1_loop.trips) : Fin 4 → Fin 2 → Vec Ideal S16x128 .bf16 :=
  ![![v.readAt (Elt Ideal) (Rect.unit (s := S64x5632) (k0_off1 k) S16x128.size (k0_off1_inb i k k0_h1)).toLoadRect f, v.readAt (Elt Ideal) (Rect.unit (s := S64x5632) (k0_off2 k) S16x128.size (k0_off2_inb i k k0_h1)).toLoadRect f], ![v.readAt (Elt Ideal) (Rect.unit (s := S64x5632) (k0_off3 k) S16x128.size (k0_off3_inb i k k0_h1)).toLoadRect f, v.readAt (Elt Ideal) (Rect.unit (s := S64x5632) (k0_off4 k) S16x128.size (k0_off4_inb i k k0_h1)).toLoadRect f], ![v.readAt (Elt Ideal) (Rect.unit (s := S64x5632) (k0_off5 k) S16x128.size (k0_off5_inb i k k0_h1)).toLoadRect f, v.readAt (Elt Ideal) (Rect.unit (s := S64x5632) (k0_off6 k) S16x128.size (k0_off6_inb i k k0_h1)).toLoadRect f], ![v.readAt (Elt Ideal) (Rect.unit (s := S64x5632) (k0_off7 k) S16x128.size (k0_off7_inb i k k0_h1)).toLoadRect f, v.readAt (Elt Ideal) (Rect.unit (s := S64x5632) (k0_off8 k) S16x128.size (k0_off8_inb i k k0_h1)).toLoadRect f]]

set_option maxHeartbeats 4000000 in
theorem xblk_apply (v : View sig .tc .vmem S64x5632 .bf16) (f : v.ty.Contents (Elt Ideal)) {i : grid0.Coords} (k0_h1 : k0_cond1 i = 1#1) (k : Fin k0_t1_loop.trips) (I : Fin 4) (h : Fin 2) (r : Fin 16) (l : Fin 128) (m : Fin 64) (col : Fin 5632)
    (hm : m.val = 16 * I.val + r.val) (hc : col.val = 256 * k.val + 128 * h.val + l.val) :
    xblk v f k0_h1 k I h (ix2 r l) = v.read (Elt Ideal) f (ix2 m col) := by
  have h4 : ∀ x : Fin 4, x = 0 ∨ x = 1 ∨ x = 2 ∨ x = 3 := by decide
  have h2 : ∀ x : Fin 2, x = 0 ∨ x = 1 := by decide
  rcases h4 I with rfl | rfl | rfl | rfl <;> rcases h2 h with rfl | rfl
  · exact rdAt v _ f (off1 k) (ix2 r l) (ix2 m col) (by
      intro a
      match a with
      | ⟨0, _⟩ => exact hm
      | ⟨1, _⟩ => exact hc)
  · exact rdAt v _ f (off2 k) (ix2 r l) (ix2 m col) (by
      intro a
      match a with
      | ⟨0, _⟩ => exact hm
      | ⟨1, _⟩ => exact hc)
  · exact rdAt v _ f (off3 k) (ix2 r l) (ix2 m col) (by
      intro a
      match a with
      | ⟨0, _⟩ => exact hm
      | ⟨1, _⟩ => exact hc)
  · exact rdAt v _ f (off4 k) (ix2 r l) (ix2 m col) (by
      intro a
      match a with
      | ⟨0, _⟩ => exact hm
      | ⟨1, _⟩ => exact hc)
  · exact rdAt v _ f (off5 k) (ix2 r l) (ix2 m col) (by
      intro a
      match a with
      | ⟨0, _⟩ => exact hm
      | ⟨1, _⟩ => exact hc)
  · exact rdAt v _ f (off6 k) (ix2 r l) (ix2 m col) (by
      intro a
      match a with
      | ⟨0, _⟩ => exact hm
      | ⟨1, _⟩ => exact hc)
  · exact rdAt v _ f (off7 k) (ix2 r l) (ix2 m col) (by
      intro a
      match a with
      | ⟨0, _⟩ => exact hm
      | ⟨1, _⟩ => exact hc)
  · exact rdAt v _ f (off8 k) (ix2 r l) (ix2 m col) (by
      intro a
      match a with
      | ⟨0, _⟩ => exact hm
      | ⟨1, _⟩ => exact hc)

set_option maxHeartbeats 4000000 in
theorem trip1_eq (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (k0_h1 : k0_cond1 i = 1#1) (X_arg1 : BufTy.Contents (Elt Ideal) arg1.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 k).1
      = xtiles k0_h1 k (fun I h => xtile h (xblk arg1.view X_arg1 k0_h1 k I 0) (xblk arg1.view X_arg1 k0_h1 k I 1)) [] := by
  unfold trip_k0_t1
  rfl

/-- What the loop leaves, element by element. -/
theorem xp_at (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (k0_h1 : k0_cond1 i = 1#1) (X_arg1 : BufTy.Contents (Elt Ideal) arg1.view.ty)  (f : arg11.view.ty.Contents (Elt Ideal)) (m : Fin 64) :
    ∀ j, j ≤ k0_t1_loop.trips → ∀ col : Fin 5632, col.val < 256 * j →
      arg11.view.read (Elt Ideal) (arg11.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 j)) (ix2 m col)
        = arg1.view.read (Elt Ideal) X_arg1 (ix2 m ⟨256 * (col.val / 256) + 2 * (col.val % 128) + col.val % 256 / 128, by omega⟩) := by
  intro j
  induction j with
  | zero => intro _ col h; omega
  | succ j ih =>
    intro hj col h
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 ⟨j, hj⟩]
    show arg11.view.read (Elt Ideal) (arg11.view.writes (Elt Ideal) f ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 ⟨j, hj⟩).1 ++ _)) _ = _
    rw [trip1_eq, xtiles_app]
    by_cases hlt : col.val < 256 * j
    · exact (xtiles_out arg11.view f _ k0_h1 ⟨j, hj⟩ _ m col (Or.inl hlt)).trans (ih (by omega) col hlt)
    · refine (xtiles_in arg11.view f _ k0_h1 ⟨j, hj⟩ _ m col ⟨col.val - 256 * j, by omega⟩ (by show _ = 256 * j + (col.val - 256 * j); omega)).trans ?_
      refine (xtile_apply _ _ _ _ _).trans ?_
      obtain ⟨q, hq⟩ : ∃ q, col.val = 256 * j + q := ⟨col.val - 256 * j, by omega⟩
      have e1 : col.val / 256 = j := by omega
      have e2 : col.val % 128 = q % 128 := by omega
      have e3 : col.val % 256 = q := by omega
      have e4 : col.val - 256 * j = q := by omega
      dsimp only []
      split <;> rename_i hs <;> simp only [e4] at hs
      · exact xblk_apply _ _ _ _ _ _ _ _ m _ (by show m.val = 16 * (m.val / 16) + m.val % 16; omega) (by show 256 * (col.val / 256) + 2 * (col.val % 128) + col.val % 256 / 128 = 256 * j + 128 * 0 + (2 * ((col.val - 256 * j) % 128) + (col.val - 256 * j) / 128) % 128; rw [e1, e2, e3, e4]; omega)
      · exact xblk_apply _ _ _ _ _ _ _ _ m _ (by show m.val = 16 * (m.val / 16) + m.val % 16; omega) (by show 256 * (col.val / 256) + 2 * (col.val % 128) + col.val % 256 / 128 = 256 * j + 128 * 1 + (2 * ((col.val - 256 * j) % 128) + (col.val - 256 * j) / 128) % 128; rw [e1, e2, e3, e4]; omega)

/-- The low-rank activations at an index. -/
theorem T12_apply (x : Vec Ideal S64x5632 .bf16) (la : Vec Ideal S5632x16 .bf16) (m : Fin 64) (j : Fin 16) :
    k0_pay1 x la (ix2 m j) = ∑ d : Fin 5632, x (ix2 m d) * la (ix2 d j) := by
  unfold k0_pay1
  pointwise

end Cert.KernelIdeal.Val

end
-- ==== Proof.Host.lean ====
/- What the region finds in its arrays: the arguments, the padded scales, the two byte tables. -/
module

public import proofs.«01_k».proof.Proof.Blk
public import proofs.«01_k».proof.Proof.XP
public import proofs.«01_k».proof.Proof.Gen.KernelIdeal.Frame
public import proofs.«01_k».proof.Proof.IdealFrame
public import Idealize.ShloMosaic.Lib.Pipeline.ValueKit
public import Idealize.ShloMosaic.Lib.StableHlo.RunRead
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The arguments as plain functions. -/
def kX (c : Dev nD) (r : Fin 64) (d : Fin 5632) : EReal := m ((c.tc : Thread nD τ).loc main_arg0) (ix3 r 0 d)
def kW (c : Dev nD) (n : Fin 17280) (K : Fin 2816) : BitVec 8 := m ((c.tc : Thread nD τ).loc main_arg1) (ix2 n K)
def kC (c : Dev nD) (n : Fin 17280) (b : Fin 88) : BitVec 8 := m ((c.tc : Thread nD τ).loc main_arg2) (ix2 n b)
def kS (c : Dev nD) (g : Fin 5940) : EReal := m ((c.tc : Thread nD τ).loc main_arg3) (ix1 g)
def kO (c : Dev nD) : EReal := m ((c.tc : Thread nD τ).loc main_arg4) ix0
def kLa (c : Dev nD) (d : Fin 5632) (j : Fin 16) : EReal := m ((c.tc : Thread nD τ).loc main_arg5) (ix2 d j)
def kLb (c : Dev nD) (j : Fin 16) (n : Fin 17280) : EReal := m ((c.tc : Thread nD τ).loc main_arg6) (ix2 j n)

theorem V_v3 (c : Dev nD) : V m c main_v3 = (shapeCast S64x5632 (m (c, Proc.tc.devRef main_arg0) : Vec Ideal S64x1x5632 .bf16) shapeCasts_S64x1x5632_S64x5632 : Vec Ideal S64x5632 .bf16) := by
  unfold V
  simp only [List.flatten_cons, List.flatten_nil, List.append_nil, List.cons_append, List.nil_append]
  after_results
  rfl

theorem V_v4 (c : Dev nD) : V m c main_v4 = (shapeCast S1 (m (c, Proc.tc.devRef main_arg4) : Vec Ideal S_ .f32) shapeCasts_S_S1 : Vec Ideal S1 .f32) := by
  unfold V
  simp only [List.flatten_cons, List.flatten_nil, List.append_nil, List.cons_append, List.nil_append]
  after_results
  rfl

theorem V_v2 (c : Dev nD) : V m c main_v2 = (pad S17x4x128 ![0, 0, 0] ![0, 0, 40] ![0, 0, 0]
      (shapeCast S17x4x88 (pad S5984 ![0] ![44] ![0] (m (c, Proc.tc.devRef main_arg3) : FVec Ideal S5940 .f32) (sitofp .f32 (constantI S_ 32 0#32) : FVec Ideal S_ .f32) pads_S5940_S5984_0440 h_S_ : FVec Ideal S5984 .f32) shapeCasts_S5984_S17x4x88 : FVec Ideal S17x4x88 .f32)
      (sitofp .f32 (constantI S_ 32 0#32) : FVec Ideal S_ .f32) pads_S17x4x88_S17x4x128_000_000_0400 h_S_ : FVec Ideal S17x4x128 .f32) := by
  unfold V
  simp only [List.flatten_cons, List.flatten_nil, List.append_nil, List.cons_append, List.nil_append]
  after_results
  rfl

theorem V_c (c : Dev nD) : V m c main_c = fun i => lit0 (S32x128.rowMajor i) := by
  unfold V
  simp only [List.flatten_cons, List.flatten_nil, List.append_nil, List.cons_append, List.nil_append]
  after_results
  rfl

theorem V_c_0 (c : Dev nD) : V m c main_c_0 = fun i => lit1 (S32x128.rowMajor i) := by
  unfold V
  simp only [List.flatten_cons, List.flatten_nil, List.append_nil, List.cons_append, List.nil_append]
  after_results
  rfl

theorem sc_x (x : Vec Ideal S64x1x5632 .bf16) (r : Fin 64) (d : Fin 5632) :
    (shapeCast S64x5632 x shapeCasts_S64x1x5632_S64x5632 : Vec Ideal S64x5632 .bf16) (ix2 r d) = x (ix3 r 0 d) := by
  pointwise

theorem sc_o (x : Vec Ideal S_ .f32) : (shapeCast S1 x shapeCasts_S_S1 : Vec Ideal S1 .f32) (ix1 0) = x ix0 := by
  pointwise

theorem V_v3_at (c : Dev nD) (r : Fin 64) (d : Fin 5632) : (V m c main_v3 (ix2 r d) : EReal) = kX m c r d := by
  rw [V_v3]
  exact sc_x _ r d

theorem V_v4_at (c : Dev nD) : (V m c main_v4 (ix1 0) : EReal) = kO m c := by
  rw [V_v4]
  exact sc_o _

theorem V_v2_at (c : Dev nD) (t : Fin 17) (k : Fin 4) (l : Fin 88) (h : (t.val * 4 + k.val) * 88 + l.val < 5940) :
    (V m c main_v2 (ix3 t k ⟨l.val, by omega⟩) : EReal) = kS m c ⟨(t.val * 4 + k.val) * 88 + l.val, h⟩ := by
  rw [V_v2]
  pointwise
  refine (dif_pos ?_).trans ?_
  · intro a
    match a with
    | ⟨0, _⟩ => show t.val * 352 + k.val * 88 + l.val < 5940; omega
  · unfold kS
    refine congrArg (m (c, Proc.tc.devRef main_arg3)) (congrArg ix1 (Fin.ext ?_))
    show t.val * 352 + k.val * 88 + l.val = (t.val * 4 + k.val) * 88 + l.val
    omega

/-- The sixteen words. -/
def nfW (i : Fin 16) : BitVec 16 :=
  ![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16] i

theorem nf4_word : ∀ i : Fin 16, Ideal.ofBits .bf16 (nfW i) = Spec.nf4 i := by
  intro i
  fin_cases i <;> first | rfl | exact Ideal.ofBits_one_bf16 | exact Ideal.ofBits_zero_bf16

theorem lits : ∀ (i : Fin 16) (n : Fin 128), lit1 ⟨128 * i.val + n.val, by omega⟩ ++ lit0 ⟨128 * i.val + n.val, by omega⟩ = nfW i := by decide +kernel

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0, 0] := (by decide +kernel : ∀ t : Fin grid0.N, _)
theorem e4 : ∀ t : Fin cfg0.N, win0_4.index t = ![0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, t.val] := (by decide +kernel : ∀ t : Fin grid0.N, _)
theorem x1 : ∀ t : Fin cfg0.N, ∀ a : Fin 2, win0_1.xsize (grid0.coords t) a = ![min 1024 (17280 - 1024 * t.val), 2816] a := (by decide +kernel : ∀ t : Fin grid0.N, _)
theorem x2 : ∀ t : Fin cfg0.N, ∀ a : Fin 2, win0_2.xsize (grid0.coords t) a = ![min 1024 (17280 - 1024 * t.val), 88] a := (by decide +kernel : ∀ t : Fin grid0.N, _)
theorem x6 : ∀ t : Fin cfg0.N, ∀ a : Fin 2, win0_6.xsize (grid0.coords t) a = ![16, min 1024 (17280 - 1024 * t.val)] a := (by decide +kernel : ∀ t : Fin grid0.N, _)
theorem x9 : ∀ t : Fin cfg0.N, ∀ a : Fin 2, win0_9.xsize (grid0.coords t) a = ![64, min 1024 (17280 - 1024 * t.val)] a := (by decide +kernel : ∀ t : Fin grid0.N, _)

theorem b0 (c : Dev nD) (t : Fin cfg0.N) (r : Fin 64) (d : Fin 5632) : (iblk m c 0 t (ix2 r d) : EReal) = kX m c r d := by
  rw [← V_v3_at]
  blk_simp [iblk, e0]
  refine congrArg (V m c main_v3) ?_
  blk_ext [e0]

theorem b5 (c : Dev nD) (t : Fin cfg0.N) (d : Fin 5632) (j : Fin 16) : (iblk m c 5 t (ix2 d j) : EReal) = kLa m c d j := by
  refine Eq.trans ?_ (congrFun (V_main_arg5 m c) (ix2 d j))
  blk_simp [iblk, e5]
  refine congrArg (V m c main_arg5) ?_
  blk_ext [e5]

theorem f1 (c : Dev nD) (t : Fin cfg0.N) (D) (r : Fin 1024) (K : Fin 2816) (h : 1024 * t.val + r.val < 17280) :
    ((cfg0.win 1).fill (cfg0.grid.coords t) D (iblk m c 1 t) (ix2 r K) : BitVec 8) = kW m c ⟨1024 * t.val + r.val, h⟩ K := by
  refine Eq.trans ?_ (congrFun (V_main_arg1 m c) (ix2 ⟨1024 * t.val + r.val, h⟩ K))
  unfold Window.fill
  rw [dif_pos ((Window.moved_iff _ _ _).mpr (by
    intro a
    refine lt_of_lt_of_eq ?_ (x1 t a).symm
    match a with
    | ⟨0, _⟩ => show r.val < min 1024 (17280 - 1024 * t.val); omega
    | ⟨1, _⟩ => exact K.isLt))]
  blk_simp [iblk, e1]
  refine congrArg (V m c main_arg1) ?_
  blk_ext [e1]

theorem f2 (c : Dev nD) (t : Fin cfg0.N) (D) (r : Fin 1024) (K : Fin 88) (h : 1024 * t.val + r.val < 17280) :
    ((cfg0.win 2).fill (cfg0.grid.coords t) D (iblk m c 2 t) (ix2 r K) : BitVec 8) = kC m c ⟨1024 * t.val + r.val, h⟩ K := by
  refine Eq.trans ?_ (congrFun (V_main_arg2 m c) (ix2 ⟨1024 * t.val + r.val, h⟩ K))
  unfold Window.fill
  rw [dif_pos ((Window.moved_iff _ _ _).mpr (by
    intro a
    refine lt_of_lt_of_eq ?_ (x2 t a).symm
    match a with
    | ⟨0, _⟩ => show r.val < min 1024 (17280 - 1024 * t.val); omega
    | ⟨1, _⟩ => exact K.isLt))]
  blk_simp [iblk, e2]
  refine congrArg (V m c main_arg2) ?_
  blk_ext [e2]

theorem f6 (c : Dev nD) (t : Fin cfg0.N) (D) (j : Fin 16) (r : Fin 1024) (h : 1024 * t.val + r.val < 17280) :
    ((cfg0.win 6).fill (cfg0.grid.coords t) D (iblk m c 6 t) (ix2 j r) : EReal) = kLb m c j ⟨1024 * t.val + r.val, h⟩ := by
  refine Eq.trans ?_ (congrFun (V_main_arg6 m c) (ix2 j ⟨1024 * t.val + r.val, h⟩))
  unfold Window.fill
  rw [dif_pos ((Window.moved_iff _ _ _).mpr (by
    intro a
    refine lt_of_lt_of_eq ?_ (x6 t a).symm
    match a with
    | ⟨0, _⟩ => exact j.isLt
    | ⟨1, _⟩ => show r.val < min 1024 (17280 - 1024 * t.val); omega))]
  blk_simp [iblk, e6]
  refine congrArg (V m c main_arg6) ?_
  blk_ext [e6]

theorem b3 (c : Dev nD) (t : Fin cfg0.N) (k : Fin 4) (l : Fin 88) (h : (t.val * 4 + k.val) * 88 + l.val < 5940) :
    (iblk m c 3 t (ix3 0 k ⟨l.val, by omega⟩) : EReal) = kS m c ⟨(t.val * 4 + k.val) * 88 + l.val, h⟩ := by
  refine Eq.trans ?_ (V_v2_at m c ⟨t.val, lt_of_lt_of_eq t.isLt N_0⟩ k l h)
  blk_simp [iblk, e3]
  refine congrArg (V m c main_v2) ?_
  blk_ext [e3]

theorem b4 (c : Dev nD) (t : Fin cfg0.N) : (iblk m c 4 t (ix1 0) : EReal) = kO m c := by
  rw [← V_v4_at]
  blk_simp [iblk, e4]
  refine congrArg (V m c main_v4) ?_
  blk_ext [e4]

theorem b7 (c : Dev nD) (t : Fin cfg0.N) (i : Fin 32) (n : Fin 128) : (iblk m c 7 t (ix2 i n) : BitVec 8) = lit0 ⟨128 * i.val + n.val, by omega⟩ := by
  refine Eq.trans (b := V m c main_c (ix2 i n)) ?_ ((congrFun (V_c m c) (ix2 i n)).trans (congrArg lit0 (Fin.ext ?_)))
  · blk_simp [iblk, e7]
    refine congrArg (V m c main_c) ?_
    blk_ext [e7]
  · refine (Shape.rowMajor_val_two (ix2 i n)).trans ?_
    show i.val * 128 + n.val = 128 * i.val + n.val
    omega

theorem b8 (c : Dev nD) (t : Fin cfg0.N) (i : Fin 32) (n : Fin 128) : (iblk m c 8 t (ix2 i n) : BitVec 8) = lit1 ⟨128 * i.val + n.val, by omega⟩ := by
  refine Eq.trans (b := V m c main_c_0 (ix2 i n)) ?_ ((congrFun (V_c_0 m c) (ix2 i n)).trans (congrArg lit1 (Fin.ext ?_)))
  · blk_simp [iblk, e8]
    refine congrArg (V m c main_c_0) ?_
    blk_ext [e8]
  · refine (Shape.rowMajor_val_two (ix2 i n)).trans ?_
    show i.val * 128 + n.val = 128 * i.val + n.val
    omega

/-- A nibble through the two byte tables is its table value. -/
theorem tab_eq (v3 v4 : Vec Ideal S32x128 .i8) (h3 : ∀ i n, v3 (ix2 i n) = lit0 ⟨128 * i.val + n.val, by omega⟩) (h4 : ∀ i n, v4 (ix2 i n) = lit1 ⟨128 * i.val + n.val, by omega⟩)
    (hi : Bool) (b : BitVec 8) (n : Fin 128) : tabVal v3 v4 hi b n = Spec.nf4 (Spec.nibble hi b) := by
  have hlt : (nib hi b).toNat < 16 := nib_lt hi b
  unfold tabVal
  rw [h3, h4, ← nf4_word, ← lits (Spec.nibble hi b) n]
  have e : (tabRow hi b).val = (Spec.nibble hi b).val := by
    show (nib hi b).toNat = (if hi then b >>> 4 else b &&& 15#8).toNat % 16
    rw [← Nat.mod_eq_of_lt hlt]; rfl
  have e' : (⟨128 * (tabRow hi b).val + n.val, by omega⟩ : Fin 4096) = ⟨128 * (Spec.nibble hi b).val + n.val, by omega⟩ := Fin.ext (by show 128 * (tabRow hi b).val + n.val = _; rw [e])
  rw [e']

/-- The interleaved activations, in the order the first grid point leaves them. -/
def Good11 (c : Dev nD) (arg11 : Memref sig .tc .vmem S64x5632 .bf16) (f : BufTy.Contents (Elt Ideal) arg11.view.ty) : Prop :=
  ∀ (r : Fin 64) (col : Fin 5632), arg11.view.read (Elt Ideal) f (ix2 r col) = kX m c r ⟨256 * (col.val / 256) + 2 * (col.val % 128) + col.val % 256 / 128, by omega⟩

/-- The low-rank activations. -/
def Good12 (c : Dev nD) (v : Vec Ideal S64x16 .bf16) : Prop :=
  ∀ (r : Fin 64) (j : Fin 16), (v (ix2 r j) : EReal) = ∑ d : Fin 5632, kX m c r d * kLa m c d j

theorem good11 (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (hc : k0_cond1 i = 1#1) (X1 : BufTy.Contents (Elt Ideal) arg1.view.ty) (f : arg11.view.ty.Contents (Elt Ideal)) (t : Fin cfg0.N) (h1 : arg1.view.read (Elt Ideal) X1 = iblk m c 0 t) :
    Good11 m c arg11 (arg11.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 hc X1 k0_t1_loop.trips)) := fun r col => by
  refine (xp_at 𝒱 c bd i arg1 harg1 arg2 harg2 arg3 harg3 arg4 harg4 arg5 harg5 arg6 harg6 arg7 harg7 arg8 harg8 arg9 harg9 arg10 harg10 arg11 harg11 arg12 harg12 arg13 harg13 hc X1 f r k0_t1_loop.trips le_rfl col ?_).trans ?_
  · have e : k0_t1_loop.trips = 22 := by decide
    rw [e]; omega
  · rw [h1]
    exact b0 m c t r _

theorem good12 (c : Dev nD) (arg1 : Memref sig .tc .vmem S64x5632 .bf16) (arg6 : Memref sig .tc .vmem S5632x16 .bf16) (X1 : BufTy.Contents (Elt Ideal) arg1.view.ty) (X6 : BufTy.Contents (Elt Ideal) arg6.view.ty) (t : Fin cfg0.N) (h1 : arg1.view.read (Elt Ideal) X1 = iblk m c 0 t) (h6 : arg6.view.read (Elt Ideal) X6 = iblk m c 5 t) :
    Good12 m c (Body.T12 arg1 arg6 X1 X6) := fun r j => by
  refine (T12_apply _ _ r j).trans (Finset.sum_congr rfl fun d _ => congrArg₂ (fun a b : EReal => a * b) ?_ ?_)
  · refine (rdAt arg1.view _ X1 rfl _ (ix2 r d) (by intro a; fin_cases a <;> simp [ix2])).trans ?_
    rw [h1]; exact b0 m c t r d
  · refine (rdAt arg6.view _ X6 rfl _ (ix2 d j) (by intro a; fin_cases a <;> simp [ix2])).trans ?_
    rw [h6]; exact b5 m c t d j

/-- The output block of a grid point, on the columns inside the array. -/
theorem body_at (𝒱 : Variants) (c : Dev nD) (bd : Option 𝒱.V) (i : grid0.Coords) (arg1 : Memref sig .tc .vmem S64x5632 .bf16) (harg1 : arg1.IsWhole) (arg2 : Memref sig .tc .vmem S1024x2816 .i8) (harg2 : arg2.IsWhole) (arg3 : Memref sig .tc .vmem S1024x88 .i8) (harg3 : arg3.IsWhole) (arg4 : Memref sig .tc .vmem S1x4x128 .f32) (harg4 : arg4.IsWhole) (arg5 : Memref sig .tc .smem S1 .f32) (harg5 : arg5.IsWhole) (arg6 : Memref sig .tc .vmem S5632x16 .bf16) (harg6 : arg6.IsWhole) (arg7 : Memref sig .tc .vmem S16x1024 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S64x1024 .bf16) (harg10 : arg10.IsWhole) (arg11 : Memref sig .tc .vmem S64x5632 .bf16) (harg11 : arg11.IsWhole) (arg12 : Memref sig .tc .vmem S64x16 .bf16) (harg12 : arg12.IsWhole) (arg13 : Memref sig .tc .vmem S4x2x2x44x2x128 .bf16) (harg13 : arg13.IsWhole) (v10 : Vec Ideal S64x16 .bf16) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X9 : BufTy.Contents (Elt Ideal) arg9.view.ty) (X11 : BufTy.Contents (Elt Ideal) arg11.view.ty) (G f : BufTy.Contents (Elt Ideal) arg10.view.ty) (t : Fin cfg0.N) (D1 D2 D6)
    (h2 : arg2.view.read (Elt Ideal) X2 = (cfg0.win 1).fill (cfg0.grid.coords t) D1 (iblk m c 1 t))
    (h3 : arg3.view.read (Elt Ideal) X3 = (cfg0.win 2).fill (cfg0.grid.coords t) D2 (iblk m c 2 t))
    (h4 : arg4.view.read (Elt Ideal) X4 = iblk m c 3 t) (h5 : arg5.view.read (Elt Ideal) X5 = iblk m c 4 t)
    (h7 : arg7.view.read (Elt Ideal) X7 = (cfg0.win 6).fill (cfg0.grid.coords t) D6 (iblk m c 6 t))
    (h8 : arg8.view.read (Elt Ideal) X8 = iblk m c 7 t) (h9 : arg9.view.read (Elt Ideal) X9 = iblk m c 8 t)
    (h10 : Good12 m c v10) (h11 : Good11 m c arg11 X11)
    (hr : Body.Reach (F := Ideal) 𝒱 c bd i arg1 harg1 arg2 harg2 arg3 harg3 arg4 harg4 arg5 harg5 arg6 harg6 arg7 harg7 arg8 harg8 arg9 harg9 arg10 harg10 arg11 harg11 arg12 harg12 arg13 harg13 (Body.rdTab arg8 X8) (Body.rdTab arg9 X9) v10 (Body.rd5 arg5 X5) X2 X3 X4 X7 X11 G k0_t2_loop.trips f)
    (r : Fin 64) (col : Fin 1024) (h : 1024 * t.val + col.val < 17280) :
    arg10.view.read (Elt Ideal) f (ix2 r col) = Spec.out (kX m c) (kW m c) (kC m c) (kS m c) (kO m c) (kLa m c) (kLb m c) r ⟨1024 * t.val + col.val, h⟩ := by
  have hcl := col.isLt
  refine (reach_at 𝒱 c bd i arg1 harg1 arg2 harg2 arg3 harg3 arg4 harg4 arg5 harg5 arg6 harg6 arg7 harg7 arg8 harg8 arg9 harg9 arg10 harg10 arg11 harg11 arg12 harg12 arg13 harg13 _ _ v10 _ X2 X3 X4 X7 X11 G r _ f hr col ?_).trans ?_
  · have e : k0_t2_loop.trips = 4 := by decide
    rw [e]; omega
  have h5' : (Body.rd5 arg5 X5 : EReal) = kO m c := by
    refine (rdAt arg5.view _ X5 rfl _ (ix1 0) (by intro a; fin_cases a; rfl)).trans ?_
    rw [h5]; exact b4 m c t
  rw [h5']
  have hcol : ∀ hh, (⟨256 * (col.val / 256) + (2 * (col.val % 256 / 2) + col.val % 256 % 2), hh⟩ : Fin 1024) = col := fun hh => Fin.ext (by show 256 * (col.val / 256) + (2 * (col.val % 256 / 2) + col.val % 256 % 2) = col.val; omega)
  refine blk_out _ _ _ _ _ _ _ _ _ r _ _ _ (kX m c) (kW m c) (kC m c) (kS m c) (kLa m c) (kLb m c) ⟨1024 * t.val + col.val, h⟩ (h11 r) (h10 r) ?_ ?_ ?_ ?_ ?_
  · intro hi b
    refine tab_eq _ _ (fun i n => ?_) (fun i n => ?_) hi b _
    · refine (rdAt arg8.view _ X8 rfl _ (ix2 i n) (by intro a; fin_cases a <;> simp [ix2])).trans ?_
      rw [h8]; exact b7 m c t i n
    · refine (rdAt arg9.view _ X9 rfl _ (ix2 i n) (by intro a; fin_cases a <;> simp [ix2])).trans ?_
      rw [h9]; exact b8 m c t i n
  · intro K
    refine (congrArg (fun q => arg2.view.read (Elt Ideal) X2 (ix2 q K)) (hcol _)).trans ?_
    show arg2.view.read (Elt Ideal) X2 (ix2 col K) = _
    rw [h2]; exact f1 m c t D1 col K h
  · intro b
    refine (congrArg (fun q => arg3.view.read (Elt Ideal) X3 (ix2 q b)) (hcol _)).trans ?_
    show arg3.view.read (Elt Ideal) X3 (ix2 col b) = _
    rw [h3]; exact f2 m c t D2 col b h
  · intro b
    have hb := b.isLt
    have e : (t.val * 4 + col.val / 256) * 88 + ((2 * (col.val % 256 / 2) + col.val % 256 % 2) * 88 + b.val) / 256 = ((1024 * t.val + col.val) * 88 + b.val) / 256 := by omega
    show arg4.view.read (Elt Ideal) X4 _ = _
    rw [h4]
    refine (b3 m c t ⟨col.val / 256, by omega⟩ ⟨((2 * (col.val % 256 / 2) + col.val % 256 % 2) * 88 + b.val) / 256, by omega⟩ ?_).trans (congrArg (kS m c) (Fin.ext e))
    show (t.val * 4 + col.val / 256) * 88 + ((2 * (col.val % 256 / 2) + col.val % 256 % 2) * 88 + b.val) / 256 < 5940
    omega
  · intro j
    refine (congrArg (fun q => arg7.view.read (Elt Ideal) X7 (ix2 j q)) (hcol _)).trans ?_
    show arg7.view.read (Elt Ideal) X7 (ix2 j col) = _
    rw [h7]; exact f6 m c t D6 j col h

end Cert.KernelIdeal.Val

end
-- ==== Proof.IdealValue.lean ====
/- The value of every run of `KernelIdeal`: the pipeline's proof data with the output block named, the body obligation from the
   body's triples, the launch, and the output array. -/
module

public import proofs.«01_k».proof.Proof.Host

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- One element of the result, of the kernel's arguments. -/
def kOut (c : Dev nD) (r : Fin 64) (n : Fin 17280) : EReal := Spec.out (kX m c) (kW m c) (kC m c) (kS m c) (kO m c) (kLa m c) (kLb m c) r n

/-- The output block of a grid point; zero past the array's end, where nothing is said. -/
def outB (c : Dev nD) (t : Fin cfg0.N) : S64x1024.Idx → EReal := fun y =>
  if h : 1024 * t.val + (y 1).val < 17280 then kOut m c (y 0) ⟨1024 * t.val + (y 1).val, h⟩ else 0

/-- Between grid points: from the first on, the scratch holds the prepared activations. -/
def Phi (c : Dev nD) (t : Fin (cfg0.N + 1)) : sProp 𝕄 :=
  iprop(((∃ f : Buf (Elt Ideal) ((c : Thread nD τ).loc cc0_scratch0), (((c : Thread nD τ).loc cc0_scratch0) ↦{fullShare} f) ∗ ⌜0 < t.val → Good11 m c (Memref.whole cc0_scratch0) f⌝)
      ∗ (∃ f : Buf (Elt Ideal) ((c : Thread nD τ).loc cc0_scratch1), (((c : Thread nD τ).loc cc0_scratch1) ↦{fullShare} f) ∗ ⌜0 < t.val → Good12 m c (Body.rd12 (F := Ideal) (Memref.whole cc0_scratch1) f)⌝)
      ∗ (∃ f : Buf (Elt Ideal) ((c : Thread nD τ).loc cc0_scratch2), ((c : Thread nD τ).loc cc0_scratch2) ↦{fullShare} f))
    ∗ ∃ r, prngReg c r)

/-- The proof data: the arrays at their region-entry contents; after the body each input buffer as fetched and the output
    buffer at its block; the scratch as `Phi` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => iblk m c 3 t
    | ⟨4, _⟩ => iblk m c 4 t
    | ⟨5, _⟩ => iblk m c 5 t
    | ⟨6, _⟩ => (cfg0.win 6).fill (cfg0.grid.coords t) (fun _ => Classical.arbitrary _) (iblk m c 6 t)
    | ⟨7, _⟩ => iblk m c 7 t
    | ⟨8, _⟩ => iblk m c 8 t
    | ⟨9, _⟩ => outB m c t
  Φ t := Phi m c t
  q _ := fullShare
  owed _ := 0

theorem A_eq (c : Dev nD) (w : Fin cfg0.W) : (dats m 0 c).A w = V m c (Pipeline.arrRef spec0 w) := by
  dsimp only [dats]

/-- Window 1's buffer was just fetched: its block on the part inside the array, anything past it. -/
theorem before_1 (c : Dev nD) (t : Fin cfg0.N) (d) : (dats m 0 c).before 1 t d = (cfg0.win 1).fill (cfg0.grid.coords t) d (iblk m c 1 t) := by
  unfold Dat.before; rw [if_pos (fetch0_1 t)]; unfold Dat.fetched Dat.blockOf iblk; rw [A_eq]

/-- Window 2's buffer was just fetched: its block on the part inside the array, anything past it. -/
theorem before_2 (c : Dev nD) (t : Fin cfg0.N) (d) : (dats m 0 c).before 2 t d = (cfg0.win 2).fill (cfg0.grid.coords t) d (iblk m c 2 t) := by
  unfold Dat.before; rw [if_pos (fetch0_2 t)]; unfold Dat.fetched Dat.blockOf iblk; rw [A_eq]

/-- Window 6's buffer was just fetched: its block on the part inside the array, anything past it. -/
theorem before_6 (c : Dev nD) (t : Fin cfg0.N) (d) : (dats m 0 c).before 6 t d = (cfg0.win 6).fill (cfg0.grid.coords t) d (iblk m c 6 t) := by
  unfold Dat.before; rw [if_pos (fetch0_6 t)]; unfold Dat.fetched Dat.blockOf iblk; rw [A_eq]

/-- The preparing branch is taken at the first grid point only. -/
theorem cond_iff : ∀ t : Fin cfg0.N, k0_cond1 (grid0.coords t) = 1#1 ↔ t.val = 0 := (by decide +kernel : ∀ t : Fin grid0.N, _)

theorem outB_at (c : Dev nD) (t : Fin cfg0.N) (r : Fin 64) (col : Fin 1024) (hc : 1024 * t.val + col.val < 17280) :
    outB m c t (ix2 r col) = kOut m c r ⟨1024 * t.val + col.val, hc⟩ := by
  unfold outB
  exact dif_pos (c := 1024 * t.val + col.val < 17280) hc

/-- An index of the part of the output block inside the array, in the block. -/
theorem xinj9 (t : Fin cfg0.N) (y : ((cfg0.win 9).xblock (cfg0.grid.coords t)).Idx) : ∃ (r : Fin 64) (col : Fin 1024),
    1024 * t.val + col.val < 17280 ∧ ((cfg0.win 9).xinj (cfg0.grid.coords t) y : S64x1024.Idx) = ix2 r col ∧ (y 0).val = r.val ∧ (y 1).val = col.val := by
  have hx : ((y 1).val : ℕ) < min 1024 (17280 - 1024 * t.val) := lt_of_lt_of_eq (y 1).isLt (x9 t 1)
  have hl : (y 0).val < 64 := lt_of_lt_of_eq (y 0).isLt (x9 t 0)
  refine ⟨⟨(y 0).val, hl⟩, ⟨(y 1).val, by omega⟩, by show 1024 * t.val + (y 1).val < 17280; omega, ?_, rfl, rfl⟩
  funext a
  match a with
  | ⟨0, _⟩ => rfl
  | ⟨1, _⟩ => rfl

/-- A buffer holding the block on the columns inside the array, as the hand-back names it. -/
theorem out_eq (c : Dev nD) (t : Fin cfg0.N) (R : S64x1024.Idx → EReal)
    (h : ∀ (r : Fin 64) (col : Fin 1024) (hc : 1024 * t.val + col.val < 17280), R (ix2 r col) = kOut m c r ⟨1024 * t.val + col.val, hc⟩) :
    (cfg0.win 9).fill (cfg0.grid.coords t) R ((cfg0.win 9).cut (cfg0.grid.coords t) (outB m c t)) = R := by
  refine Window.fill_congr_cut _ _ (funext fun y => ?_)
  obtain ⟨r, col, hc, e, -, -⟩ := xinj9 t y
  show R ((cfg0.win 9).xinj (cfg0.grid.coords t) y) = outB m c t ((cfg0.win 9).xinj (cfg0.grid.coords t) y)
  rw [e]
  exact (h r col hc).trans (outB_at m c t r col hc).symm

set_option maxHeartbeats 8000000 in
theorem body_obligation (c : Dev nD) : BodyObligationLoose (dats m 0 c) (defs₀ (F := Ideal)) Variants.none () Set.univ := fun t => by
  rw [bigSep_W0, bigSep_W0]
  simp only [Bool.false_eq_true, if_false]
  rw [show (dats m 0 c).Φ t.castSucc = Phi m c t.castSucc from rfl, show (dats m 0 c).Φ t.succ = Phi m c t.succ from rfl,
    show (dats m 0 c).owesAt () t.succ = (dats m 0 c).owesAt () t.castSucc from rfl]
  unfold Phi
  rw [show (defs₀ (F := Ideal)) .tc cfg0.body (cfg0.bodyArgs t (cfg0.slots t)) = bodyAt0 t from rfl]
  simp only [Body.Fr.scr_eq]
  unfold owns
  iintro ⟨⟨⟨⟨%f11, H11, %p11⟩, ⟨%f12, H12, %p12⟩, %f13, H13⟩, Hp⟩, Ho, ⟨%d0, %X1, %hX1, H1⟩, ⟨%d1, %X2, %hX2, H2⟩, ⟨%d2, %X3, %hX3, H3⟩, ⟨%d3, %X4, %hX4, H4⟩, ⟨%d4, %X5, %hX5, H5⟩, ⟨%d5, %X6, %hX6, H6⟩, ⟨%d6, %X7, %hX7, H7⟩, ⟨%d7, %X8, %hX8, H8⟩, ⟨%d8, %X9, %hX9, H9⟩, %d9, %f10, -, H10⟩
  rw [before0_0_of m (dats m 0 c) (A_eq m c 0) (fun _ => rfl)] at hX1
  rw [before_1] at hX2
  rw [before_2] at hX3
  rw [before0_3_of m (dats m 0 c) (A_eq m c 3) (fun _ => rfl)] at hX4
  rw [before0_4_of m (dats m 0 c) (A_eq m c 4) (fun _ => rfl)] at hX5
  rw [before0_5_of m (dats m 0 c) (A_eq m c 5) (fun _ => rfl)] at hX6
  rw [before_6] at hX7
  rw [before0_7_of m (dats m 0 c) (A_eq m c 7) (fun _ => rfl)] at hX8
  rw [before0_8_of m (dats m 0 c) (A_eq m c 8) (fun _ => rfl)] at hX9
  by_cases hc : k0_cond1 (grid0.coords t) = 1#1
  · iapply (wp_wand_r frame _ _)
    isplitr [Hp Ho]
    · iapply (Body.bodyFirst (F := Ideal) c (grid0.coords t) _ _ _ _ _ _ _ _ _ _ _ _ _ _ _ _ _ _ _ _ _ _ _ _ _ _ X1 X2 X3 X4 X5 X6 X7 X8 X9 f10 f11 f12 f13 hc)
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      iexact H13
    iintro %a ⟨⟨H1, H2, H3, H4, H5, H6, H7, H8, H9⟩, ⟨%g10, H10, %hr⟩, H11, ⟨%g12, H12, %h12⟩, %g13, H13⟩
    have G11 := good11 m Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) hc X1 f11 t hX1
    have T12' := good12 m c _ _ X1 X6 t hX1 hX6
    have G12 : Good12 m c (Body.rd12 (Memref.whole cc0_scratch1) g12) := by rw [h12]; exact T12'
    isplitl [H11 H12 H13 Hp]
    · isplitr [Hp]
      · isplitl [H11]
        · iexists _; isplitl [H11]; · iexact H11
          ipureintro; exact fun _ => G11
        isplitl [H12]
        · iexists _; isplitl [H12]; · iexact H12
          ipureintro; exact fun _ => G12
        iexists g13; iexact H13
      iexact Hp
    isplitl [Ho]; · iexact Ho
    isplitl [H1]
    · iexists X1; isplitr [H1]
      · ipureintro; exact hX1
      iexact H1
    isplitl [H2]
    · iexists d1; iexists X2; isplitr [H2]
      · ipureintro; exact hX2.trans (congrArg _ ((cfg0.win 1).cut_fill _ _ _).symm)
      iexact H2
    isplitl [H3]
    · iexists d2; iexists X3; isplitr [H3]
      · ipureintro; exact hX3.trans (congrArg _ ((cfg0.win 2).cut_fill _ _ _).symm)
      iexact H3
    isplitl [H4]
    · iexists X4; isplitr [H4]
      · ipureintro; exact hX4
      iexact H4
    isplitl [H5]
    · iexists X5; isplitr [H5]
      · ipureintro; exact hX5
      iexact H5
    isplitl [H6]
    · iexists X6; isplitr [H6]
      · ipureintro; exact hX6
      iexact H6
    isplitl [H7]
    · iexists d6; iexists X7; isplitr [H7]
      · ipureintro; exact hX7.trans (congrArg _ ((cfg0.win 6).cut_fill _ _ _).symm)
      iexact H7
    isplitl [H8]
    · iexists X8; isplitr [H8]
      · ipureintro; exact hX8
      iexact H8
    isplitl [H9]
    · iexists X9; isplitr [H9]
      · ipureintro; exact hX9
      iexact H9
    iexists _; iexists g10; isplitr [H10]
    · ipureintro
      exact (out_eq m c t _ fun r col h => body_at m Variants.none c none _ _ _ _ _ _ _ _ _ _ _ _ _ _ _ _ _ _ _ _ _ _ _ _ _ _ _ _ X2 X3 X4 X5 X7 X8 X9 _ f10 g10 t _ _ _ hX2 hX3 hX4 hX5 hX7 hX8 hX9 T12' G11 hr r col h).symm
    iexact H10
  · iapply (wp_wand_r frame _ _)
    isplitr [Hp Ho]
    · iapply (Body.bodyRest (F := Ideal) c (grid0.coords t) _ _ _ _ _ _ _ _ _ _ _ _ _ _ _ _ _ _ _ _ _ _ _ _ _ _ X1 X2 X3 X4 X5 X6 X7 X8 X9 f10 f11 f12 f13 hc)
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      iexact H13
    iintro %a ⟨⟨H1, H2, H3, H4, H5, H6, H7, H8, H9⟩, ⟨%g10, H10, %hr⟩, H11, H12, %g13, H13⟩
    have ht : 0 < t.castSucc.val := Nat.pos_of_ne_zero fun h0 => hc ((cond_iff t).mpr h0)
    have G11 := p11 ht
    have G12 := p12 ht
    isplitl [H11 H12 H13 Hp]
    · isplitr [Hp]
      · isplitl [H11]
        · iexists _; isplitl [H11]; · iexact H11
          ipureintro; exact fun _ => G11
        isplitl [H12]
        · iexists _; isplitl [H12]; · iexact H12
          ipureintro; exact fun _ => G12
        iexists g13; iexact H13
      iexact Hp
    isplitl [Ho]; · iexact Ho
    isplitl [H1]
    · iexists X1; isplitr [H1]
      · ipureintro; exact hX1
      iexact H1
    isplitl [H2]
    · iexists d1; iexists X2; isplitr [H2]
      · ipureintro; exact hX2.trans (congrArg _ ((cfg0.win 1).cut_fill _ _ _).symm)
      iexact H2
    isplitl [H3]
    · iexists d2; iexists X3; isplitr [H3]
      · ipureintro; exact hX3.trans (congrArg _ ((cfg0.win 2).cut_fill _ _ _).symm)
      iexact H3
    isplitl [H4]
    · iexists X4; isplitr [H4]
      · ipureintro; exact hX4
      iexact H4
    isplitl [H5]
    · iexists X5; isplitr [H5]
      · ipureintro; exact hX5
      iexact H5
    isplitl [H6]
    · iexists X6; isplitr [H6]
      · ipureintro; exact hX6
      iexact H6
    isplitl [H7]
    · iexists d6; iexists X7; isplitr [H7]
      · ipureintro; exact hX7.trans (congrArg _ ((cfg0.win 6).cut_fill _ _ _).symm)
      iexact H7
    isplitl [H8]
    · iexists X8; isplitr [H8]
      · ipureintro; exact hX8
      iexact H8
    isplitl [H9]
    · iexists X9; isplitr [H9]
      · ipureintro; exact hX9
      iexact H9
    iexists _; iexists g10; isplitr [H10]
    · ipureintro
      exact (out_eq m c t _ fun r col h => body_at m Variants.none c none _ _ _ _ _ _ _ _ _ _ _ _ _ _ _ _ _ _ _ _ _ _ _ _ _ _ _ _ X2 X3 X4 X5 X7 X8 X9 _ f10 g10 t _ _ _ hX2 hX3 hX4 hX5 hX7 hX8 hX9 G12 G11 hr r col h).symm
    iexact H10

theorem hin (c : Dev nD) : Pipeline.ΦA spec0 c ⊢ (dats m 0 c).Φ 0 := by
  rw [show (dats m 0 c).Φ 0 = Phi m c 0 from rfl]
  unfold Pipeline.ΦA; rw [scopedRest0_eq]; unfold Phi
  iintro ⟨⟨⟨%f11, H11⟩, ⟨%f12, H12⟩, H13⟩, Hp⟩
  isplitr [Hp]
  · isplitl [H11]
    · iexists f11; isplitl [H11]; · iexact H11
      ipureintro; exact fun h => absurd h (lt_irrefl 0)
    isplitl [H12]
    · iexists f12; isplitl [H12]; · iexact H12
      ipureintro; exact fun h => absurd h (lt_irrefl 0)
    iexact H13
  iexact Hp

theorem hout (c : Dev nD) : (dats m 0 c).Φ (Fin.last cfg0.N) ⊢ Pipeline.ΦA spec0 c := by
  rw [show (dats m 0 c).Φ (Fin.last cfg0.N) = Phi m c (Fin.last cfg0.N) from rfl]
  unfold Pipeline.ΦA; rw [scopedRest0_eq]; unfold Phi
  iintro ⟨⟨⟨%f11, H11, -⟩, ⟨%f12, H12, -⟩, H13⟩, Hp⟩
  isplitr [Hp]
  · isplitl [H11]; · iexists f11; iexact H11
    isplitl [H12]; · iexists f12; iexact H12
    iexact H13
  iexact Hp

/-- Every run ends in the state the proof data names. -/
theorem run : θ_run defs (onTc (τ := τ) (main (F := Ideal))) (s₀ m ρ) (Pipeline.FramePost cfgs (dats m) 0 (V m)) :=
  Pipeline.θ_run_frame_track cfgs (dats m) 0 launch0 defs₀ Variants.none m ρ main (body_obligation m)
    (fun c => (dats m 0 c).share_full fun _ => rfl) (fun _ _ => rfl) (V m) (hmain m Variants.none) (A_eq m) (hin m) (hout m)
    (Q' := Pipeline.FramePost cfgs (dats m) 0 (V m))

/-- The result array. -/
def outG (c : Dev nD) : Buf (Elt Ideal) ((c.tc : Thread nD τ).loc main_v5) := fun (i : S64x17280.Idx) => kOut m c (i 0) (i 1)

theorem final (c : Dev nD) : (dats m 0 c).arrAt 9 cfg0.N = outG m c := by
  refine (dats m 0 c).arrAt_eq_of_covers 9 (outG m c) (by decide +kernel) fun t hf y => ?_
  obtain ⟨r, col, hc, e, h0, h1⟩ := xinj9 t y
  blk_simp
  show outB m c t ((cfg0.win 9).xinj (cfg0.grid.coords t) y) = kOut m c ((win0_9.blk t).view.emb y 0) ((win0_9.blk t).view.emb y 1)
  rw [e]
  refine (outB_at m c t r col hc).trans (congrArg₂ (kOut m c) (Fin.ext ?_) (Fin.ext ?_))
  · blk_simp [e9]
    dsimp only
    omega
  · blk_simp [e9]
    dsimp only
    omega

/-- THE VALUE: every run ends with the result array at `outG`, the arguments as launched. -/
theorem value_run : θ_run defs (onTc (τ := τ) (main (F := Ideal))) ⟨m, fun _ => 0, ρ⟩ (fun r => ∀ c : Dev nD,
      r.2.mem ((c.tc : Thread nD τ).loc main_v5) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 9).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run m ρ)

end Cert.KernelIdeal.Val

end
-- ==== Proof.Ref.lean ====
/- The reference's result, element by element. -/
module

public import proofs.«01_k».proof.Proof.Gen.ReferenceIdeal.Run
public import proofs.«01_k».proof.Proof.Spec

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe

/-- The arguments as plain functions. -/
def aX (V0 : Valuation τ sig (Elt Ideal)) (m : Fin 64) (d : Fin 5632) : EReal := V0 (Proc.devRef .tc main_arg0) (ix3 m 0 d)
def aW (V0 : Valuation τ sig (Elt Ideal)) (n : Fin 17280) (K : Fin 2816) : BitVec 8 := V0 (Proc.devRef .tc main_arg1) (ix2 n K)
def aC (V0 : Valuation τ sig (Elt Ideal)) (n : Fin 17280) (b : Fin 88) : BitVec 8 := V0 (Proc.devRef .tc main_arg2) (ix2 n b)
def aS (V0 : Valuation τ sig (Elt Ideal)) (g : Fin 5940) : EReal := V0 (Proc.devRef .tc main_arg3) (ix1 g)
def aO (V0 : Valuation τ sig (Elt Ideal)) : EReal := V0 (Proc.devRef .tc main_arg4) ix0
def aLa (V0 : Valuation τ sig (Elt Ideal)) (d : Fin 5632) (j : Fin 16) : EReal := V0 (Proc.devRef .tc main_arg5) (ix2 d j)
def aLb (V0 : Valuation τ sig (Elt Ideal)) (j : Fin 16) (n : Fin 17280) : EReal := V0 (Proc.devRef .tc main_arg6) (ix2 j n)

/-- The block a packed column belongs to. -/
theorem blk : ∀ K : Fin 2816, Scalar.select
    (IntOp.andi (IntOp.cmpi .ne (if BitVec.ofNat 32 K.val = 0 then (0 : BitVec 32) else if (BitVec.ofNat 32 K.val).msb = true then -1 else 1)
        (if (32#32 : BitVec 32) = 0 then (0 : BitVec 32) else if (32#32 : BitVec 32).msb = true then -1 else 1))
      (IntOp.cmpi .ne (IntOp.remsi .host (BitVec.ofNat 32 K.val) 32#32) 0#32))
    (IntOp.subi (IntOp.divsi .host (BitVec.ofNat 32 K.val) 32#32) 1#32)
    (IntOp.divsi .host (BitVec.ofNat 32 K.val) 32#32) = BitVec.ofNat 32 (K.val / 32) := by decide +kernel

theorem uitofp_zero : FloatOps.uitofp (F := Ideal) .bf16 (0#1) = (0 : EReal) := by
  show ((((0#1 : BitVec 1).toNat : ℕ) : ℝ) : EReal) = 0
  simp

theorem uitofp_one : FloatOps.uitofp (F := Ideal) .bf16 (1#1) = (1 : EReal) := by
  show ((((1#1 : BitVec 1).toNat : ℕ) : ℝ) : EReal) = 1
  simp

theorem eq_small (a b : ℕ) (ha : a < 2 ^ 32) (hb : b < 2 ^ 32) :
    IntOp.cmpi .eq (BitVec.ofNat 32 a) (BitVec.ofNat 32 b) = if a = b then 1#1 else 0#1 := by
  have h : (BitVec.ofNat 32 a = BitVec.ofNat 32 b) ↔ a = b := by
    constructor
    · intro e
      have := congrArg BitVec.toNat e
      rwa [BitVec.toNat_ofNat, BitVec.toNat_ofNat, Nat.mod_eq_of_lt ha, Nat.mod_eq_of_lt hb] at this
    · rintro rfl; rfl
  unfold IntOp.cmpi
  by_cases e : a = b
  · subst e; simp
  · have : (BitVec.ofNat 32 a == BitVec.ofNat 32 b) = false := by rw [beq_eq_false_iff_ne]; exact fun x => e (h.mp x)
    rw [if_neg e, this]; rfl

set_option maxHeartbeats 4000000 in
theorem v20_apply (V0 : Valuation τ sig (Elt Ideal)) (n : Fin 17280) (K : Fin 2816) :
    (res_main_v20 (F := Ideal) V0 (ix2 n K) : EReal) = Spec.absm (aC V0) (aS V0) (aO V0) n ⟨K.val / 32, by omega⟩ := by
  have hK := K.isLt
  unfold res_main_v20 res_main_call0_v2 res_main_v11 res_main_call0_v0
  pointwise
  refine (Finset.sum_congr (f := fun x : Fin 88 => _) (g := fun x : Fin 88 => Spec.absm (aC V0) (aS V0) (aO V0) n x * FloatOps.uitofp (F := Ideal) .bf16 (if K.val / 32 = x.val then 1#1 else 0#1)) rfl fun x _ => ?_).trans ?_
  · refine congrArg₂ (fun a b : EReal => a * b) rfl (congrArg (FloatOps.uitofp (F := Ideal) .bf16) ?_)
    refine Eq.trans ?_ (eq_small (K.val / 32) x.val (by omega) (by omega))
    exact congrArg (fun z => IntOp.cmpi .eq z (BitVec.ofNat 32 x.val)) (blk K)
  · refine (Finset.sum_eq_single ⟨K.val / 32, by omega⟩ (fun x _ hx => ?_) (fun h => absurd (Finset.mem_univ _) h)).trans ?_
    · rw [if_neg (fun e => hx (Fin.ext e.symm))]
      exact (congrArg (fun z : EReal => Spec.absm (aC V0) (aS V0) (aO V0) n x * z) (show FloatOps.uitofp (F := Ideal) .bf16 (0#1) = (0 : EReal) from uitofp_zero)).trans (mul_zero _)
    · rw [if_pos rfl]
      exact (congrArg (fun z : EReal => Spec.absm (aC V0) (aS V0) (aO V0) n ⟨K.val / 32, by omega⟩ * z) (show FloatOps.uitofp (F := Ideal) .bf16 (1#1) = (1 : EReal) from uitofp_one)).trans (mul_one _)

set_option maxHeartbeats 4000000 in
theorem v106_apply (V0 : Valuation τ sig (Elt Ideal)) (m : Fin 64) (d : Fin 5632) :
    (res_main_v106 (F := Ideal) V0 (ix2 m d) : EReal) = aX V0 m d := by
  unfold res_main_v106
  pointwise
  rfl

theorem bit_hi (q : Fin 4) : ∀ b : BitVec 8,
    IntOp.cmpi .ne (IntOp.andi (IntOp.shrsi .host (IntOp.shrsi .host (b.setWidth 32) 4#32) (BitVec.ofNat 32 q.val)) 1#32) 0#32
      = if (Spec.nibble true b).val.testBit q.val then 1#1 else 0#1 := by
  revert q; decide +kernel

theorem bit_lo (q : Fin 4) : ∀ b : BitVec 8,
    IntOp.cmpi .ne (IntOp.andi (IntOp.shrsi .host (IntOp.andi (b.setWidth 32) 15#32) (BitVec.ofNat 32 q.val)) 1#32) 0#32
      = if (Spec.nibble false b).val.testBit q.val then 1#1 else 0#1 := by
  revert q; decide +kernel

/-- The selection tree is the table. -/
theorem tree (b3 b2 b1 b0 : BitVec 1) (i : Fin 16) (h3 : b3 = if i.val.testBit 3 then 1#1 else 0#1) (h2 : b2 = if i.val.testBit 2 then 1#1 else 0#1)
    (h1 : b1 = if i.val.testBit 1 then 1#1 else 0#1) (h0 : b0 = if i.val.testBit 0 then 1#1 else 0#1) :
    Scalar.select b3
      (Scalar.select b2
        (Scalar.select b1 (Scalar.select b0 (1 : EReal) (Ideal.ofBits FTy.bf16 16185#16))
          (Scalar.select b0 (Ideal.ofBits FTy.bf16 16144#16) (Ideal.ofBits FTy.bf16 16098#16)))
        (Scalar.select b1 (Scalar.select b0 (Ideal.ofBits FTy.bf16 16045#16) (Ideal.ofBits FTy.bf16 15996#16))
          (Scalar.select b0 (Ideal.ofBits FTy.bf16 15909#16) (Ideal.ofBits FTy.bf16 15779#16))))
      (Scalar.select b2
        (Scalar.select b1 (Scalar.select b0 (0 : EReal) (Ideal.ofBits FTy.bf16 48570#16))
          (Scalar.select b0 (Ideal.ofBits FTy.bf16 48701#16) (Ideal.ofBits FTy.bf16 48786#16)))
        (Scalar.select b1 (Scalar.select b0 (Ideal.ofBits FTy.bf16 48842#16) (Ideal.ofBits FTy.bf16 48902#16))
          (Scalar.select b0 (Ideal.ofBits FTy.bf16 48946#16) (Ideal.ofBits FTy.bf16 49024#16)))) = Spec.nf4 i := by
  subst h3 h2 h1 h0
  fin_cases i <;> rfl

set_option maxHeartbeats 4000000 in
theorem v111_apply (V0 : Valuation τ sig (Elt Ideal)) (m : Fin 64) (n : Fin 17280) :
    (res_main_v111 (F := Ideal) V0 (ix2 m n) : EReal) =
      (∑ K : Fin 2816, aX V0 m ⟨2 * K.val, by omega⟩ * (Spec.nf4 (Spec.nibble true (aW V0 n K)) * Spec.absm (aC V0) (aS V0) (aO V0) n ⟨K.val / 32, by omega⟩))
      + ∑ K : Fin 2816, aX V0 m ⟨2 * K.val + 1, by omega⟩ * (Spec.nf4 (Spec.nibble false (aW V0 n K)) * Spec.absm (aC V0) (aS V0) (aO V0) n ⟨K.val / 32, by omega⟩) := by
  unfold res_main_v111
  pointwise
  refine congrArg₂ (fun a b : EReal => a + b) (Finset.sum_congr rfl fun K _ => ?_) (Finset.sum_congr rfl fun K _ => ?_)
  · refine congrArg₂ (fun a b : EReal => a * b) (v106_apply V0 m _) (congrArg₂ (fun a b : EReal => a * b) (tree _ _ _ _ _ ?_ ?_ ?_ ?_) (v20_apply V0 n K))
    · unfold res_main_v23 res_main_v21; pointwise; exact bit_hi 3 _
    · unfold res_main_v53 res_main_v23 res_main_v21; pointwise; exact bit_hi 2 _
    · unfold res_main_v43 res_main_v23 res_main_v21; pointwise; exact bit_hi 1 _
    · unfold res_main_v29 res_main_v23 res_main_v21; pointwise; exact bit_hi 0 _
  · refine congrArg₂ (fun a b : EReal => a * b) ((v106_apply V0 m _).trans (congrArg (aX V0 m) (Fin.ext (Nat.add_comm 1 (2 * K.val))))) (congrArg₂ (fun a b : EReal => a * b) (tree _ _ _ _ _ ?_ ?_ ?_ ?_) (v20_apply V0 n K))
    · unfold res_main_v65 res_main_v21; pointwise; exact bit_lo 3 _
    · unfold res_main_v95 res_main_v65 res_main_v21; pointwise; exact bit_lo 2 _
    · unfold res_main_v85 res_main_v65 res_main_v21; pointwise; exact bit_lo 1 _
    · unfold res_main_v71 res_main_v65 res_main_v21; pointwise; exact bit_lo 0 _

set_option maxHeartbeats 4000000 in
/-- The reference's result at an index. -/
theorem out_apply (V0 : Valuation τ sig (Elt Ideal)) (m : Fin 64) (n : Fin 17280) :
    (truncf .bf16 (addf (res_main_v111 (F := Ideal) V0) (mulf (broadcastInDim S64x17280 ![] bcast_S_S64x17280 (constant S_ .f32 0x40000000#32)) (Host.dotGeneral (φ₁ := .bf16) (φ₂ := .bf16) dot_S64x16_S16x17280_S64x17280_1_0_0_1_n_n none (truncf .bf16 (Host.dotGeneral (φ₁ := .bf16) (φ₂ := .bf16) dot_S64x5632_S5632x16_S64x16_1_0_0_1_n_n none (res_main_v106 V0) (V0 (Proc.devRef .tc main_arg5))) bitsLt_bf16_f32) (V0 (Proc.devRef .tc main_arg6))))) bitsLt_bf16_f32 : FVec Ideal S64x17280 .bf16) (ix2 m n)
      = Spec.out (aX V0) (aW V0) (aC V0) (aS V0) (aO V0) (aLa V0) (aLb V0) m n := by
  unfold Spec.out
  pointwise
  refine congrArg₂ (fun a b : EReal => a + b) (v111_apply V0 m n) (congrArg (fun z : EReal => Ideal.ofBits .f32 0x40000000#32 * z) (Finset.sum_congr rfl fun j _ => ?_))
  exact congrArg₂ (fun a b : EReal => a * b) (Finset.sum_congr rfl fun d _ => congrArg₂ (fun a b : EReal => a * b) (v106_apply V0 m d) rfl) rfl

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsFrame
public import proofs.«01_k».proof.Proof.IdealFrame
public import proofs.«01_k».proof.Proof.IdealValue
public import proofs.«01_k».proof.Proof.Ref
public import Idealize.ShloMosaic.Lib.Bf16PairInverse
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- Every run of the kernel ends, its arguments unchanged, its counters at zero. -/
theorem quiescent_kernel : Cert.quiescent_Kernel (hKernel := Cert.Kernel.Gen.facts) := fun m g _ =>
  Cert.Kernel.Body.frame_run m g

/-- The same of the kernel over the extended reals. -/
theorem quiescent_kernelIdeal : Cert.quiescent_KernelIdeal (hKernelIdeal := Cert.KernelIdeal.Gen.facts) := fun m g _ =>
  Cert.KernelIdeal.Body.frame_run m g

/-- The same of the reference: host operations only. -/
theorem quiescent_referenceIdeal : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The ledger's five distinct statements. -/
theorem preserves : Cert.preserves_Kernel_KernelIdeal :=
  open Cert.KernelIdeal IdealRules.bf16_pair in
  ⟨bufferStatement S4x2x2x44x2x128 S4x2x2x44x1x128, packStatement S44x128, statement S1x1x44x2x128 S1x1x44x1x128,
    statement S1x1x1x2x128 S1x1x1x1x128, statement S16x128 S8x128⟩

/-- The kernel's arguments and the reference's are the same functions where the two memories agree, so the two results are. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (r : Fin 64) (n : Fin 17280) :
    Cert.Spec.out (Cert.ReferenceIdeal.Val.aX (StableHlo.launchContents m' c)) (Cert.ReferenceIdeal.Val.aW (StableHlo.launchContents m' c)) (Cert.ReferenceIdeal.Val.aC (StableHlo.launchContents m' c))
        (Cert.ReferenceIdeal.Val.aS (StableHlo.launchContents m' c)) (Cert.ReferenceIdeal.Val.aO (StableHlo.launchContents m' c)) (Cert.ReferenceIdeal.Val.aLa (StableHlo.launchContents m' c)) (Cert.ReferenceIdeal.Val.aLb (StableHlo.launchContents m' c)) r n
      = Cert.KernelIdeal.Val.kOut m c r n := by
  have e0 : Cert.ReferenceIdeal.Val.aX (StableHlo.launchContents m' c) = Cert.KernelIdeal.Val.kX m c := funext fun a => funext fun b => congrFun h0 (ix3 a 0 b)
  have e1 : Cert.ReferenceIdeal.Val.aW (StableHlo.launchContents m' c) = Cert.KernelIdeal.Val.kW m c := funext fun a => funext fun b => congrFun h1 (ix2 a b)
  have e2 : Cert.ReferenceIdeal.Val.aC (StableHlo.launchContents m' c) = Cert.KernelIdeal.Val.kC m c := funext fun a => funext fun b => congrFun h2 (ix2 a b)
  have e3 : Cert.ReferenceIdeal.Val.aS (StableHlo.launchContents m' c) = Cert.KernelIdeal.Val.kS m c := funext fun a => congrFun h3 (ix1 a)
  have e4 : Cert.ReferenceIdeal.Val.aO (StableHlo.launchContents m' c) = Cert.KernelIdeal.Val.kO m c := congrFun h4 ix0
  have e5 : Cert.ReferenceIdeal.Val.aLa (StableHlo.launchContents m' c) = Cert.KernelIdeal.Val.kLa m c := funext fun a => funext fun b => congrFun h5 (ix2 a b)
  have e6 : Cert.ReferenceIdeal.Val.aLb (StableHlo.launchContents m' c) = Cert.KernelIdeal.Val.kLb m c := funext fun a => funext fun b => congrFun h6 (ix2 a b)
  rw [e0, e1, e2, e3, e4, e5, e6]
  rfl

/-- The value: over the extended reals the kernel's result and the reference's are equal, element by element. -/
theorem algebraic : Cert.algebraic_KernelIdeal_ReferenceIdeal (hKernelIdeal := Cert.KernelIdeal.Gen.facts) (hReferenceIdeal := Cert.ReferenceIdeal.Gen.facts) :=
  fun m g m' g' _ hargs => ⟨Cert.KernelIdeal.Val.outG m, Cert.KernelIdeal.Val.value_run m g,
    (θ_run Cert.ReferenceIdeal.defs _ _).mono (fun r h c => ⟨(h c).1.trans (funext fun (i : Cert.ReferenceIdeal.S64x17280.Idx) => by
        obtain ⟨h0, h1, h2, h3, h4, h5, h6⟩ := hargs c
        rw [show i = ix2 (i 0) (i 1) from funext fun a => by match a with | ⟨0, _⟩ => rfl | ⟨1, _⟩ => rfl]
        exact (Cert.ReferenceIdeal.Val.out_apply (StableHlo.launchContents m' c) (i 0) (i 1)).trans (out_eq m m' c h0 h1 h2 h3 h4 h5 h6 (i 0) (i 1))), (h c).2⟩)
      (Cert.ReferenceIdeal.Value.run (F := Ideal) m' g')⟩

theorem claim : Cert.Claim :=
  ⟨Cert.Kernel.Gen.facts, Cert.KernelIdeal.Gen.facts, Cert.ReferenceIdeal.Gen.facts, quiescent_kernel, quiescent_kernelIdeal,
    quiescent_referenceIdeal, preserves, algebraic⟩

end Cert.Proof

end
